-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 1024]⟩ ⟨2, ![512, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 512]⟩ ⟨2, ![64, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x512 : Shape := ⟨2, ![64, 512]⟩
abbrev S512x1024 : Shape := ⟨2, ![512, 1024]⟩
abbrev S1024x512 : Shape := ⟨2, ![1024, 512]⟩
abbrev S8x512 : Shape := ⟨2, ![8, 512]⟩
abbrev S8x2x16x512 : Shape := ⟨4, ![8, 2, 16, 512]⟩
abbrev S8x4x16x512 : Shape := ⟨4, ![8, 4, 16, 512]⟩
abbrev S7x8x512 : Shape := ⟨3, ![7, 8, 512]⟩
abbrev S2x512x1024 : Shape := ⟨3, ![2, 512, 1024]⟩
abbrev S2x1024x512 : Shape := ⟨3, ![2, 1024, 512]⟩
abbrev S8x4 : Shape := ⟨2, ![8, 4]⟩
abbrev S7 : Shape := ⟨1, ![7]⟩
abbrev S3x2 : Shape := ⟨2, ![3, 2]⟩
abbrev S1x1 : Shape := ⟨2, ![1, 1]⟩
abbrev S_ : Shape := ⟨0, ![]⟩
abbrev S1x512x1024 : Shape := ⟨3, ![1, 512, 1024]⟩
abbrev S1x1024x512 : Shape := ⟨3, ![1, 1024, 512]⟩
abbrev S16x512 : Shape := ⟨2, ![16, 512]⟩
abbrev S16x1024 : Shape := ⟨2, ![16, 1024]⟩
abbrev S1x1x16x512 : Shape := ⟨4, ![1, 1, 16, 512]⟩
abbrev S1 : Shape := ⟨1, ![1]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S64x512, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S8x512, .f32⟩
  | .local _ .vmem, ⟨0, _⟩ => ⟨S64x512, .f32⟩
  | .local _ .vmem, ⟨1, _⟩ => ⟨S8x512, .f32⟩
  | .local _ .vmem, ⟨2, _⟩ => ⟨S8x2x16x512, .bf16⟩
  | .local _ .vmem, ⟨3, _⟩ => ⟨S8x4x16x512, .bf16⟩
  | .local _ .vmem, ⟨4, _⟩ => ⟨S64x512, .bf16⟩
  | .local _ .vmem, ⟨5, _⟩ => ⟨S7x8x512, .bf16⟩
  | .local _ .vmem, ⟨6, _⟩ => ⟨S2x512x1024, .f32⟩
  | .local _ .vmem, ⟨7, _⟩ => ⟨S2x1024x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v20 : BitVec 32 := Scalar.xori v2 c1_i32_19
  let c1_i32_21 : BitVec 32 := 1#32
  let v21 : BitVec 32 := Scalar.muli v20 c1_i32_21
  let v22 : BitVec 32 := Scalar.addi c0_i32_22 v21
  v22.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 32 := Scalar.xori v2 c2_i32
  let c1_i32_24 : BitVec 32 := 1#32
  let v24 : BitVec 32 := Scalar.muli v23 c1_i32_24
  let v25 : BitVec 32 := Scalar.addi c0_i32_25 v24
  v25.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v26 : BitVec 32 := Scalar.xori v2 c3_i32
  let c1_i32_27 : BitVec 32 := 1#32
  let v27 : BitVec 32 := Scalar.muli v26 c1_i32_27
  let v28 : BitVec 32 := Scalar.addi c0_i32_28 v27
  v28.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v29 : BitVec 32 := Scalar.xori v2 c4_i32
  let c1_i32_30 : BitVec 32 := 1#32
  let v30 : BitVec 32 := Scalar.muli v29 c1_i32_30
  let v31 : BitVec 32 := Scalar.addi c0_i32_31 v30
  v31.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 32 := Scalar.xori v2 c5_i32
  let c1_i32_33 : BitVec 32 := 1#32
  let v33 : BitVec 32 := Scalar.muli v32 c1_i32_33
  let v34 : BitVec 32 := Scalar.addi c0_i32_34 v33
  v34.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v35 : BitVec 32 := Scalar.xori v2 c6_i32
  let c1_i32_36 : BitVec 32 := 1#32
  let v36 : BitVec 32 := Scalar.muli v35 c1_i32_36
  let v37 : BitVec 32 := Scalar.addi c0_i32_37 v36
  v37.toNat
def k0_dev7 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v38 : BitVec 32 := Scalar.xori v2 c7_i32
  let c1_i32_39 : BitVec 32 := 1#32
  let v39 : BitVec 32 := Scalar.muli v38 c1_i32_39
  let v40 : BitVec 32 := Scalar.addi c0_i32_40 v39
  v40.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v65 : BitVec 32 := Scalar.xori v2 c2_i32_69
  let c1_i32_80 : BitVec 32 := 1#32
  let v68 : BitVec 32 := Scalar.muli v65 c1_i32_80
  let v69 : BitVec 32 := Scalar.addi c0_i32_81 v68
  v69.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v66 : BitVec 32 := Scalar.xori v2 c1_i32_70
  let c1_i32_94 : BitVec 32 := 1#32
  let v78 : BitVec 32 := Scalar.muli v66 c1_i32_94
  let v79 : BitVec 32 := Scalar.addi c0_i32_95 v78
  v79.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v67 : BitVec 32 := Scalar.xori v2 c3_i32_71
  let c1_i32_108 : BitVec 32 := 1#32
  let v88 : BitVec 32 := Scalar.muli v67 c1_i32_108
  let v89 : BitVec 32 := Scalar.addi c0_i32_109 v88
  v89.toNat
def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_131 : BitVec 32 := 2#32
  let v114 : BitVec 32 := Scalar.xori v2 c2_i32_131
  let c1_i32_142 : BitVec 32 := 1#32
  let v117 : BitVec 32 := Scalar.muli v114 c1_i32_142
  let v118 : BitVec 32 := Scalar.addi c0_i32_143 v117
  v118.toNat
def k0_dev12 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_132 : BitVec 32 := 1#32
  let v115 : BitVec 32 := Scalar.xori v2 c1_i32_132
  let c1_i32_156 : BitVec 32 := 1#32
  let v127 : BitVec 32 := Scalar.muli v115 c1_i32_156
  let v128 : BitVec 32 := Scalar.addi c0_i32_157 v127
  v128.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_133 : BitVec 32 := 3#32
  let v116 : BitVec 32 := Scalar.xori v2 c3_i32_133
  let c1_i32_170 : BitVec 32 := 1#32
  let v137 : BitVec 32 := Scalar.muli v116 c1_i32_170
  let v138 : BitVec 32 := Scalar.addi c0_i32_171 v137
  v138.toNat
def k0_dev14 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_193 : BitVec 32 := 2#32
  let v163 : BitVec 32 := Scalar.xori v2 c2_i32_193
  let c1_i32_204 : BitVec 32 := 1#32
  let v166 : BitVec 32 := Scalar.muli v163 c1_i32_204
  let v167 : BitVec 32 := Scalar.addi c0_i32_205 v166
  v167.toNat
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_194 : BitVec 32 := 1#32
  let v164 : BitVec 32 := Scalar.xori v2 c1_i32_194
  let c1_i32_218 : BitVec 32 := 1#32
  let v176 : BitVec 32 := Scalar.muli v164 c1_i32_218
  let v177 : BitVec 32 := Scalar.addi c0_i32_219 v176
  v177.toNat
def k0_dev16 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_195 : BitVec 32 := 3#32
  let v165 : BitVec 32 := Scalar.xori v2 c3_i32_195
  let c1_i32_232 : BitVec 32 := 1#32
  let v186 : BitVec 32 := Scalar.muli v165 c1_i32_232
  let v187 : BitVec 32 := Scalar.addi c0_i32_233 v186
  v187.toNat
def k0_dev17 (d0 : Dev nD) : Nat :=
  let c0_i32_267 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_255 : BitVec 32 := 2#32
  let v212 : BitVec 32 := Scalar.xori v2 c2_i32_255
  let c1_i32_266 : BitVec 32 := 1#32
  let v215 : BitVec 32 := Scalar.muli v212 c1_i32_266
  let v216 : BitVec 32 := Scalar.addi c0_i32_267 v215
  v216.toNat
def k0_dev18 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_256 : BitVec 32 := 1#32
  let v213 : BitVec 32 := Scalar.xori v2 c1_i32_256
  let c1_i32_280 : BitVec 32 := 1#32
  let v225 : BitVec 32 := Scalar.muli v213 c1_i32_280
  let v226 : BitVec 32 := Scalar.addi c0_i32_281 v225
  v226.toNat
def k0_dev19 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_257 : BitVec 32 := 3#32
  let v214 : BitVec 32 := Scalar.xori v2 c3_i32_257
  let c1_i32_294 : BitVec 32 := 1#32
  let v235 : BitVec 32 := Scalar.muli v214 c1_i32_294
  let v236 : BitVec 32 := Scalar.addi c0_i32_295 v235
  v236.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_407 : BitVec 32 := 4#32
  let v309 : BitVec 32 := Scalar.xori v2 c4_i32_407
  let c1_i32_416 : BitVec 32 := 1#32
  let v310 : BitVec 32 := Scalar.muli v309 c1_i32_416
  let v311 : BitVec 32 := Scalar.addi c0_i32_417 v310
  v311.toNat
def k0_dev21 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_519 : BitVec 32 := 4#32
  let v376 : BitVec 32 := Scalar.xori v2 c4_i32_519
  let c1_i32_528 : BitVec 32 := 1#32
  let v377 : BitVec 32 := Scalar.muli v376 c1_i32_528
  let v378 : BitVec 32 := Scalar.addi c0_i32_529 v377
  v378.toNat
def k0_dev22 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_631 : BitVec 32 := 4#32
  let v443 : BitVec 32 := Scalar.xori v2 c4_i32_631
  let c1_i32_640 : BitVec 32 := 1#32
  let v444 : BitVec 32 := Scalar.muli v443 c1_i32_640
  let v445 : BitVec 32 := Scalar.addi c0_i32_641 v444
  v445.toNat
def k0_dev23 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_743 : BitVec 32 := 4#32
  let v510 : BitVec 32 := Scalar.xori v2 c4_i32_743
  let c1_i32_752 : BitVec 32 := 1#32
  let v511 : BitVec 32 := Scalar.muli v510 c1_i32_752
  let v512 : BitVec 32 := Scalar.addi c0_i32_753 v511
  v512.toNat
def k0_dev24 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_815 : BitVec 32 := 2#32
  let v561 : BitVec 32 := Scalar.xori v2 c2_i32_815
  let c1_i32_826 : BitVec 32 := 1#32
  let v564 : BitVec 32 := Scalar.muli v561 c1_i32_826
  let v565 : BitVec 32 := Scalar.addi c0_i32_827 v564
  v565.toNat
def k0_dev25 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_816 : BitVec 32 := 1#32
  let v562 : BitVec 32 := Scalar.xori v2 c1_i32_816
  let c1_i32_840 : BitVec 32 := 1#32
  let v574 : BitVec 32 := Scalar.muli v562 c1_i32_840
  let v575 : BitVec 32 := Scalar.addi c0_i32_841 v574
  v575.toNat
def k0_dev26 (d0 : Dev nD) : Nat :=
  let c0_i32_855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_817 : BitVec 32 := 3#32
  let v563 : BitVec 32 := Scalar.xori v2 c3_i32_817
  let c1_i32_854 : BitVec 32 := 1#32
  let v584 : BitVec 32 := Scalar.muli v563 c1_i32_854
  let v585 : BitVec 32 := Scalar.addi c0_i32_855 v584
  v585.toNat
def k0_dev27 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_907 : BitVec 32 := 2#32
  let v626 : BitVec 32 := Scalar.xori v2 c2_i32_907
  let c1_i32_918 : BitVec 32 := 1#32
  let v629 : BitVec 32 := Scalar.muli v626 c1_i32_918
  let v630 : BitVec 32 := Scalar.addi c0_i32_919 v629
  v630.toNat
def k0_dev28 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_908 : BitVec 32 := 1#32
  let v627 : BitVec 32 := Scalar.xori v2 c1_i32_908
  let c1_i32_932 : BitVec 32 := 1#32
  let v639 : BitVec 32 := Scalar.muli v627 c1_i32_932
  let v640 : BitVec 32 := Scalar.addi c0_i32_933 v639
  v640.toNat
def k0_dev29 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_909 : BitVec 32 := 3#32
  let v628 : BitVec 32 := Scalar.xori v2 c3_i32_909
  let c1_i32_946 : BitVec 32 := 1#32
  let v649 : BitVec 32 := Scalar.muli v628 c1_i32_946
  let v650 : BitVec 32 := Scalar.addi c0_i32_947 v649
  v650.toNat
def k0_dev30 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_999 : BitVec 32 := 2#32
  let v691 : BitVec 32 := Scalar.xori v2 c2_i32_999
  let c1_i32_1010 : BitVec 32 := 1#32
  let v694 : BitVec 32 := Scalar.muli v691 c1_i32_1010
  let v695 : BitVec 32 := Scalar.addi c0_i32_1011 v694
  v695.toNat
def k0_dev31 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1000 : BitVec 32 := 1#32
  let v692 : BitVec 32 := Scalar.xori v2 c1_i32_1000
  let c1_i32_1024 : BitVec 32 := 1#32
  let v704 : BitVec 32 := Scalar.muli v692 c1_i32_1024
  let v705 : BitVec 32 := Scalar.addi c0_i32_1025 v704
  v705.toNat
def k0_dev32 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1001 : BitVec 32 := 3#32
  let v693 : BitVec 32 := Scalar.xori v2 c3_i32_1001
  let c1_i32_1038 : BitVec 32 := 1#32
  let v714 : BitVec 32 := Scalar.muli v693 c1_i32_1038
  let v715 : BitVec 32 := Scalar.addi c0_i32_1039 v714
  v715.toNat
def k0_dev33 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1091 : BitVec 32 := 2#32
  let v756 : BitVec 32 := Scalar.xori v2 c2_i32_1091
  let c1_i32_1102 : BitVec 32 := 1#32
  let v759 : BitVec 32 := Scalar.muli v756 c1_i32_1102
  let v760 : BitVec 32 := Scalar.addi c0_i32_1103 v759
  v760.toNat
def k0_dev34 (d0 : Dev nD) : Nat :=
  let c0_i32_1117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1092 : BitVec 32 := 1#32
  let v757 : BitVec 32 := Scalar.xori v2 c1_i32_1092
  let c1_i32_1116 : BitVec 32 := 1#32
  let v769 : BitVec 32 := Scalar.muli v757 c1_i32_1116
  let v770 : BitVec 32 := Scalar.addi c0_i32_1117 v769
  v770.toNat
def k0_dev35 (d0 : Dev nD) : Nat :=
  let c0_i32_1131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1093 : BitVec 32 := 3#32
  let v758 : BitVec 32 := Scalar.xori v2 c3_i32_1093
  let c1_i32_1130 : BitVec 32 := 1#32
  let v779 : BitVec 32 := Scalar.muli v758 c1_i32_1130
  let v780 : BitVec 32 := Scalar.addi c0_i32_1131 v779
  v780.toNat
def k0_dev36 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1233 : BitVec 32 := 4#32
  let v845 : BitVec 32 := Scalar.xori v2 c4_i32_1233
  let c1_i32_1242 : BitVec 32 := 1#32
  let v846 : BitVec 32 := Scalar.muli v845 c1_i32_1242
  let v847 : BitVec 32 := Scalar.addi c0_i32_1243 v846
  v847.toNat
def k0_dev37 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1345 : BitVec 32 := 4#32
  let v912 : BitVec 32 := Scalar.xori v2 c4_i32_1345
  let c1_i32_1354 : BitVec 32 := 1#32
  let v913 : BitVec 32 := Scalar.muli v912 c1_i32_1354
  let v914 : BitVec 32 := Scalar.addi c0_i32_1355 v913
  v914.toNat
def k0_dev38 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1457 : BitVec 32 := 4#32
  let v979 : BitVec 32 := Scalar.xori v2 c4_i32_1457
  let c1_i32_1466 : BitVec 32 := 1#32
  let v980 : BitVec 32 := Scalar.muli v979 c1_i32_1466
  let v981 : BitVec 32 := Scalar.addi c0_i32_1467 v980
  v981.toNat
def k0_dev39 (d0 : Dev nD) : Nat :=
  let c0_i32_1579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1569 : BitVec 32 := 4#32
  let v1046 : BitVec 32 := Scalar.xori v2 c4_i32_1569
  let c1_i32_1578 : BitVec 32 := 1#32
  let v1047 : BitVec 32 := Scalar.muli v1046 c1_i32_1578
  let v1048 : BitVec 32 := Scalar.addi c0_i32_1579 v1047
  v1048.toNat
def k0_off1 (d0 : Dev nD) (c6_i32_1778 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1193 : BitVec 32 := Scalar.xori v2 c6_i32_1778
  let c8_i32_1779 : BitVec 32 := 8#32
  let v1194 : BitVec 32 := Scalar.muli v1193 c8_i32_1779
  let c0_i32_1787 : BitVec 32 := 0#32
  ![v1194.toNat, 0]
def k0_dev40 (d0 : Dev nD) : Nat :=
  let c0_i32_1784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1778 : BitVec 32 := 6#32
  let v1193 : BitVec 32 := Scalar.xori v2 c6_i32_1778
  let c1_i32_1783 : BitVec 32 := 1#32
  let v1195 : BitVec 32 := Scalar.muli v1193 c1_i32_1783
  let v1196 : BitVec 32 := Scalar.addi c0_i32_1784 v1195
  v1196.toNat
def k0_dev41 (d0 : Dev nD) : Nat :=
  let c0_i32_1794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1788 : BitVec 32 := 2#32
  let v1204 : BitVec 32 := Scalar.xori v2 c2_i32_1788
  let c1_i32_1793 : BitVec 32 := 1#32
  let v1206 : BitVec 32 := Scalar.muli v1204 c1_i32_1793
  let v1207 : BitVec 32 := Scalar.addi c0_i32_1794 v1206
  v1207.toNat
def k0_dev42 (d0 : Dev nD) : Nat :=
  let c0_i32_1804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1798 : BitVec 32 := 5#32
  let v1215 : BitVec 32 := Scalar.xori v2 c5_i32_1798
  let c1_i32_1803 : BitVec 32 := 1#32
  let v1217 : BitVec 32 := Scalar.muli v1215 c1_i32_1803
  let v1218 : BitVec 32 := Scalar.addi c0_i32_1804 v1217
  v1218.toNat
def k0_dev43 (d0 : Dev nD) : Nat :=
  let c0_i32_1814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1808 : BitVec 32 := 7#32
  let v1226 : BitVec 32 := Scalar.xori v2 c7_i32_1808
  let c1_i32_1813 : BitVec 32 := 1#32
  let v1228 : BitVec 32 := Scalar.muli v1226 c1_i32_1813
  let v1229 : BitVec 32 := Scalar.addi c0_i32_1814 v1228
  v1229.toNat
def k0_dev44 (d0 : Dev nD) : Nat :=
  let c0_i32_1824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1818 : BitVec 32 := 1#32
  let v1237 : BitVec 32 := Scalar.xori v2 c1_i32_1818
  let c1_i32_1823 : BitVec 32 := 1#32
  let v1239 : BitVec 32 := Scalar.muli v1237 c1_i32_1823
  let v1240 : BitVec 32 := Scalar.addi c0_i32_1824 v1239
  v1240.toNat
def k0_dev45 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1828 : BitVec 32 := 3#32
  let v1248 : BitVec 32 := Scalar.xori v2 c3_i32_1828
  let c1_i32_1833 : BitVec 32 := 1#32
  let v1250 : BitVec 32 := Scalar.muli v1248 c1_i32_1833
  let v1251 : BitVec 32 := Scalar.addi c0_i32_1834 v1250
  v1251.toNat
def k0_dev46 (d0 : Dev nD) : Nat :=
  let c0_i32_1844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1838 : BitVec 32 := 4#32
  let v1259 : BitVec 32 := Scalar.xori v2 c4_i32_1838
  let c1_i32_1843 : BitVec 32 := 1#32
  let v1261 : BitVec 32 := Scalar.muli v1259 c1_i32_1843
  let v1262 : BitVec 32 := Scalar.addi c0_i32_1844 v1261
  v1262.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1848 : BitVec 32 := 8#32
  let v1270 : BitVec 32 := Scalar.muli v2 c8_i32_1848
  let v1271 : Index := Scalar.indexCast v1270
  let c0_1849 : Index := 0#32
  ![v1271.toNat, 0]
abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x512 : Shape := ⟨2, ![64, 512]⟩
abbrev S512x8192 : Shape := ⟨2, ![512, 8192]⟩
abbrev S8192x512 : Shape := ⟨2, ![8192, 512]⟩
abbrev S64x8192 : Shape := ⟨2, ![64, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S64x8192, .f32⟩
  | .hbm, ⟨8, _⟩ => ⟨S_, .f32⟩
  | .hbm, ⟨9, _⟩ => ⟨S64x8192, .f32⟩
  | .hbm, ⟨10, _⟩ => ⟨S64x8192, .f32⟩
  | .hbm, ⟨11, _⟩ => ⟨S64x512, .f32⟩
  | .hbm, ⟨12, _⟩ => ⟨S64x8192, .f32⟩
  | .hbm, ⟨13, _⟩ => ⟨S_, .f32⟩
  | .hbm, ⟨14, _⟩ => ⟨S64x8192, .f32⟩
  | .hbm, ⟨15, _⟩ => ⟨S64x8192, .f32⟩
  | .hbm, ⟨16, _⟩ => ⟨S64x512, .f32⟩
  | .hbm, ⟨17, _⟩ => ⟨S64x8192, .f32⟩
  | .hbm, ⟨18, _⟩ => ⟨S_, .f32⟩
  | .hbm, ⟨19, _⟩ => ⟨S64x8192, .f32⟩
  | .hbm, ⟨20, _⟩ => ⟨S64x8192, .f32⟩
  | .hbm, ⟨21, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Blocks.lean ====
/-
# The kernel's body, written as blocks

The body of the kernel is one straight line of some four hundred operations. Here it is written once more as a
composition of a few blocks — the entry, a dense block of a layer, the exchange inside a group of four devices, the
exchange between the two groups, the final scatter — each parameterised by which buffer slot it works on; `body_eq`
states that the printed body is that composition, so that every later lemma is about a block, once for all slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MlpProof

open Cert.KernelIdeal Cert.KernelIdeal.Gen
open Idealize.ShloMosaic
open Idealize.ShloMosaic.TcCoe
open Idealize.SL Idealize.SL.Sem

variable {F : FTy → Type} [FloatOps F]

abbrev PG (F : FTy → Type) [FloatOps F] : Type → Type 1 := Prog (TpuEff nD τ sig (Elt F) Λ₀ .tc)

/-! ## The buffers -/

/-- The staged activations, the output block, the send slots, the receive slots, the partial sums to scatter, the
    receive slots of the scatter, the two slots of each layer's first weight and of its second weight. -/
abbrev xM : Memref sig .tc .vmem S64x512 .f32 := Memref.whole cc0_stg0_0
abbrev oM : Memref sig .tc .vmem S8x512 .f32 := Memref.whole cc0_stg1_0
abbrev sndM : Memref sig .tc .vmem S8x2x16x512 .bf16 := Memref.whole cc0_scratch0
abbrev rcvM : Memref sig .tc .vmem S8x4x16x512 .bf16 := Memref.whole cc0_scratch1
abbrev rsM : Memref sig .tc .vmem S64x512 .bf16 := Memref.whole cc0_scratch2
abbrev rrM : Memref sig .tc .vmem S7x8x512 .bf16 := Memref.whole cc0_scratch3
abbrev wiM : Memref sig .tc .vmem S2x512x1024 .f32 := Memref.whole cc0_scratch4
abbrev woM : Memref sig .tc .vmem S2x1024x512 .f32 := Memref.whole cc0_scratch5

/-- The arrays of the two weights of layer `k`. -/
def hinR (k : Fin 3) : Ref sig .tc := ![main_arg1, main_arg2, main_arg3] k
def houtR (k : Fin 3) : Ref sig .tc := ![main_arg4, main_arg5, main_arg6] k
def hinM (k : Fin 3) : Memref sig .tc .hbm S512x1024 .f32 := ![Memref.whole main_arg1, Memref.whole main_arg2, Memref.whole main_arg3] k
def houtM (k : Fin 3) : Memref sig .tc .hbm S1024x512 .f32 := ![Memref.whole main_arg4, Memref.whole main_arg5, Memref.whole main_arg6] k

theorem hinM_whole (k : Fin 3) : (hinM k).IsWhole := by
  fin_cases k <;> exact Memref.isWhole_whole _
theorem houtM_whole (k : Fin 3) : (houtM k).IsWhole := by
  fin_cases k <;> exact Memref.isWhole_whole _

/-! ## The slots -/

theorem snd_inb : ∀ (lb : Fin 8) (k : Fin 2), ∀ a, (![lb.val, k.val, 0, 0] : Fin 4 → Nat) a + S1x1x16x512.size a ≤ S8x2x16x512.size a := by decide
theorem rcv_inb : ∀ (lb : Fin 8) (j : Fin 4), ∀ a, (![lb.val, j.val, 0, 0] : Fin 4 → Nat) a + S1x1x16x512.size a ≤ S8x4x16x512.size a := by decide
theorem snd_words : ∀ (lb : Fin 8) (k : Fin 2), (Rect.unit (s := S8x2x16x512) ![lb.val, k.val, 0, 0] S1x1x16x512.size (snd_inb lb k)).WholeWords (EltTy.packing .bf16) := by decide +kernel
theorem snd_packed : ∀ (lb : Fin 8) (k : Fin 2), (Rect.unit (s := S8x2x16x512) ![lb.val, k.val, 0, 0] S1x1x16x512.size (snd_inb lb k)).PackedRows (EltTy.packing .bf16) := by decide +kernel
theorem rcv_words : ∀ (lb : Fin 8) (j : Fin 4), (Rect.unit (s := S8x4x16x512) ![lb.val, j.val, 0, 0] S1x1x16x512.size (rcv_inb lb j)).WholeWords (EltTy.packing .bf16) := by decide +kernel
theorem rr_inb : ∀ (r : Fin 7), ∀ a, (![r.val, 0, 0] : Fin 3 → Nat) a + S1x8x512.size a ≤ S7x8x512.size a := by decide
theorem rr_words : ∀ (r : Fin 7), (Rect.unit (s := S7x8x512) ![r.val, 0, 0] S1x8x512.size (rr_inb r)).WholeWords (EltTy.packing .bf16) := by decide +kernel
theorem wi_inb : ∀ (s : Fin 2), ∀ a, (![s.val, 0, 0] : Fin 3 → Nat) a + S1x512x1024.size a ≤ S2x512x1024.size a := by decide
theorem wo_inb : ∀ (s : Fin 2), ∀ a, (![s.val, 0, 0] : Fin 3 → Nat) a + S1x1024x512.size a ≤ S2x1024x512.size a := by decide
theorem blk_inb : ∀ (b : Fin 4), ∀ a, (![16 * b.val, 0] : Fin 2 → Nat) a + S16x512.size a ≤ S64x512.size a := by decide
theorem blk_packed : ∀ (b : Fin 4), (Rect.unit (s := S64x512) ![16 * b.val, 0] S16x512.size (blk_inb b)).PackedRows (EltTy.packing .bf16) := by decide +kernel
theorem sem84_inb : ∀ (lb : Fin 8) (j : Fin 4), ∀ a, (![lb.val, j.val] : Fin 2 → Nat) a + S1x1.size a ≤ S8x4.size a := by decide
theorem sem7_inb : ∀ (r : Fin 7), ∀ a, (![r.val] : Fin 1 → Nat) a + S1.size a ≤ S7.size a := by decide
theorem sem32_inb : ∀ (k : Fin 3) (i : Fin 2), ∀ a, (![k.val, i.val] : Fin 2 → Nat) a + S1x1.size a ≤ S3x2.size a := by decide

abbrev sndR (lb : Fin 8) (k : Fin 2) : Rect S8x2x16x512 := Rect.unit (s := S8x2x16x512) ![lb.val, k.val, 0, 0] S1x1x16x512.size (snd_inb lb k)
abbrev rcvR (lb : Fin 8) (j : Fin 4) : Rect S8x4x16x512 := Rect.unit (s := S8x4x16x512) ![lb.val, j.val, 0, 0] S1x1x16x512.size (rcv_inb lb j)
abbrev rrR (r : Fin 7) : Rect S7x8x512 := Rect.unit (s := S7x8x512) ![r.val, 0, 0] S1x8x512.size (rr_inb r)
abbrev wiR (s : Fin 2) : Rect S2x512x1024 := Rect.unit (s := S2x512x1024) ![s.val, 0, 0] S1x512x1024.size (wi_inb s)
abbrev woR (s : Fin 2) : Rect S2x1024x512 := Rect.unit (s := S2x1024x512) ![s.val, 0, 0] S1x1024x512.size (wo_inb s)
abbrev blkR (b : Fin 4) : Rect S64x512 := Rect.unit (s := S64x512) ![16 * b.val, 0] S16x512.size (blk_inb b)
/-- The eight rows device `c` sends to the device whose number differs from its own by the bits of `r + 1`; its own eight rows. -/
abbrev rsR (c : Dev nD) (r : Fin 7) : Rect S64x512 := Rect.unit (s := S64x512) (k0_off1 c (BitVec.ofNat 32 (1 + r.val))) S8x512.size (k0_off1_inb c r)
abbrev ownR (c : Dev nD) : Rect S64x512 := Rect.unit (s := S64x512) (k0_off2 c) S8x512.size (k0_off2_inb c)

def sndV (lb : Fin 8) (k : Fin 2) : Memref sig .tc .vmem S16x512 .bf16 :=
  (sndM.slice (sndR lb k) (fun _ => rfl)).squeeze S16x512 squeezes_S1x1x16x512_S16x512
def rcvV (lb : Fin 8) (j : Fin 4) : Memref sig .tc .vmem S16x512 .bf16 :=
  (rcvM.slice (rcvR lb j) (fun _ => rfl)).squeeze S16x512 squeezes_S1x1x16x512_S16x512
def rrV (r : Fin 7) : Memref sig .tc .vmem S8x512 .bf16 :=
  (rrM.slice (rrR r) (fun _ => rfl)).squeeze S8x512 squeezes_S1x8x512_S8x512
def rsV (c : Dev nD) (r : Fin 7) : Memref sig .tc .vmem S8x512 .bf16 := rsM.slice (rsR c r) (fun _ => rfl)
def wiV (s : Fin 2) : Memref sig .tc .vmem S512x1024 .f32 :=
  (wiM.slice (wiR s) (fun _ => rfl)).squeeze S512x1024 squeezes_S1x512x1024_S512x1024
def woV (s : Fin 2) : Memref sig .tc .vmem S1024x512 .f32 :=
  (woM.slice (woR s) (fun _ => rfl)).squeeze S1024x512 squeezes_S1x1024x512_S1024x512

theorem sndV_words (lb : Fin 8) (k : Fin 2) : (sndV lb k).view.WordExact :=
  ((Memref.isWhole_whole _).wordExact_slice rfl _ (snd_words lb k)).reshape _ _
theorem rcvV_words (lb : Fin 8) (j : Fin 4) : (rcvV lb j).view.WordExact :=
  ((Memref.isWhole_whole _).wordExact_slice rfl _ (rcv_words lb j)).reshape _ _
theorem rrV_words (r : Fin 7) : (rrV r).view.WordExact :=
  ((Memref.isWhole_whole _).wordExact_slice rfl _ (rr_words r)).reshape _ _
theorem rsV_words (c : Dev nD) (r : Fin 7) : (rsV c r).view.WordExact :=
  (Memref.isWhole_whole _).wordExact_slice rfl _ (k0_off1_wordsbf16 c r)
theorem wiV_words (s : Fin 2) : (wiV s).view.WordExact := (View.wordExact_bits rfl).reshape _ _
theorem woV_words (s : Fin 2) : (woV s).view.WordExact := (View.wordExact_bits rfl).reshape _ _

/-! ## The semaphores -/

abbrev barS : Sem sig := (SemArray.scalar (sig.barrier 0 rfl) : Sems sig S_).sem
def sndS (lb : Fin 8) (j : Fin 4) : DmaSem sig :=
  ((cc0_scratch6.slice (Rect.unit (s := S8x4) ![lb.val, j.val] S1x1.size (sem84_inb lb j))).squeeze S_ squeezes_S1x1_S_).sem
def rcvS (lb : Fin 8) (j : Fin 4) : DmaSem sig :=
  ((cc0_scratch7.slice (Rect.unit (s := S8x4) ![lb.val, j.val] S1x1.size (sem84_inb lb j))).squeeze S_ squeezes_S1x1_S_).sem
def rssS (r : Fin 7) : DmaSem sig :=
  ((cc0_scratch8.slice (Rect.unit (s := S7) ![r.val] S1.size (sem7_inb r))).squeeze S_ squeezes_S1_S_).sem
def rsrS (r : Fin 7) : DmaSem sig :=
  ((cc0_scratch9.slice (Rect.unit (s := S7) ![r.val] S1.size (sem7_inb r))).squeeze S_ squeezes_S1_S_).sem
def wS (k : Fin 3) (i : Fin 2) : DmaSem sig :=
  ((cc0_scratch10.slice (Rect.unit (s := S3x2) ![k.val, i.val] S1x1.size (sem32_inb k i))).squeeze S_ squeezes_S1x1_S_).sem

/-! ## The devices addressed -/

/-- The device transfer `j` of slot `lb` goes to, the one the scatter's transfer `r` goes to, the one barrier signal `r`
    goes to, all as the program computes them from its own number `c`. -/
def xDev (lb : Fin 8) (j : Fin 4) (c : Dev nD) : Dev nD :=
  (![![⟨k0_dev8 c, k0_dev8_lt c⟩, ⟨k0_dev9 c, k0_dev9_lt c⟩, ⟨k0_dev10 c, k0_dev10_lt c⟩, ⟨k0_dev20 c, k0_dev20_lt c⟩],
    ![⟨k0_dev11 c, k0_dev11_lt c⟩, ⟨k0_dev12 c, k0_dev12_lt c⟩, ⟨k0_dev13 c, k0_dev13_lt c⟩, ⟨k0_dev21 c, k0_dev21_lt c⟩],
    ![⟨k0_dev14 c, k0_dev14_lt c⟩, ⟨k0_dev15 c, k0_dev15_lt c⟩, ⟨k0_dev16 c, k0_dev16_lt c⟩, ⟨k0_dev22 c, k0_dev22_lt c⟩],
    ![⟨k0_dev17 c, k0_dev17_lt c⟩, ⟨k0_dev18 c, k0_dev18_lt c⟩, ⟨k0_dev19 c, k0_dev19_lt c⟩, ⟨k0_dev23 c, k0_dev23_lt c⟩],
    ![⟨k0_dev24 c, k0_dev24_lt c⟩, ⟨k0_dev25 c, k0_dev25_lt c⟩, ⟨k0_dev26 c, k0_dev26_lt c⟩, ⟨k0_dev36 c, k0_dev36_lt c⟩],
    ![⟨k0_dev27 c, k0_dev27_lt c⟩, ⟨k0_dev28 c, k0_dev28_lt c⟩, ⟨k0_dev29 c, k0_dev29_lt c⟩, ⟨k0_dev37 c, k0_dev37_lt c⟩],
    ![⟨k0_dev30 c, k0_dev30_lt c⟩, ⟨k0_dev31 c, k0_dev31_lt c⟩, ⟨k0_dev32 c, k0_dev32_lt c⟩, ⟨k0_dev38 c, k0_dev38_lt c⟩],
    ![⟨k0_dev33 c, k0_dev33_lt c⟩, ⟨k0_dev34 c, k0_dev34_lt c⟩, ⟨k0_dev35 c, k0_dev35_lt c⟩, ⟨k0_dev39 c, k0_dev39_lt c⟩]] : Fin 8 → Fin 4 → Dev nD) lb j
def rDev (r : Fin 7) (c : Dev nD) : Dev nD :=
  (![⟨k0_dev44 c, k0_dev44_lt c⟩, ⟨k0_dev41 c, k0_dev41_lt c⟩, ⟨k0_dev45 c, k0_dev45_lt c⟩, ⟨k0_dev46 c, k0_dev46_lt c⟩, ⟨k0_dev42 c, k0_dev42_lt c⟩, ⟨k0_dev40 c, k0_dev40_lt c⟩, ⟨k0_dev43 c, k0_dev43_lt c⟩] : Fin 7 → Dev nD) r
def bDev (r : Fin 7) (c : Dev nD) : Dev nD :=
  (![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩] : Fin 7 → Dev nD) r

/-! ## The values -/

/-- One layer on one block of rows with one device's columns: the product with the first weight, cut below at zero,
    times the second weight. -/
def dense (x : FVec F S16x512 .f32) (w1 : Vec F S512x1024 .f32) (w2 : Vec F S1024x512 .f32) : FVec F S16x512 .f32 :=
  matmul dot_S16x1024_S1024x512_S16x512_1_0_0_1_n_n none
    (maximumf (matmul dot_S16x512_S512x1024_S16x1024_1_0_0_1_n_n none x w1 (constant S16x1024 .f32 0x00000000#32))
      (broadcast S16x1024 (Scalar.ofBits .f32 0x00000000#32 : F .f32)))
    w2 (constant S16x512 .f32 0x00000000#32)
/-- A block narrowed to bf16. -/
def narrow (v : FVec F S16x512 .f32) : FVec F S16x512 .bf16 := truncf .bf16 v bitsLt_bf16_f32
/-- A narrowed block in the shape of a slot, and a slot's contents in the shape of a block. -/
def toSlot (v : FVec F S16x512 .bf16) : FVec F S1x1x16x512 .bf16 := shapeCast S1x1x16x512 v shapeCasts_S16x512_S1x1x16x512
def ofSlot (v : Vec F S1x1x16x512 .bf16) : FVec F S16x512 .bf16 := shapeCast S16x512 v shapeCasts_S1x1x16x512_S16x512
def ofSlot8 (v : Vec F S1x8x512 .bf16) : FVec F S8x512 .bf16 := shapeCast S8x512 v shapeCasts_S1x8x512_S8x512
def same16 (v : Vec F S16x512 .f32) : FVec F S16x512 .f32 := shapeCast S16x512 v shapeCasts_S16x512_S16x512
def same16b (v : FVec F S16x512 .bf16) : FVec F S16x512 .bf16 := shapeCast S16x512 v shapeCasts_S16x512_S16x512
/-- A group's sum: a device's own partial block and the three received ones, those added in bf16. -/
def gsum (a : FVec F S16x512 .f32) (r0 r1 r2 : FVec F S16x512 .bf16) : FVec F S16x512 .f32 :=
  addf a (extf .f32 (addf (addf r0 r1) r2) bitsLt_bf16_f32)
/-- The two groups' sums added. -/
def psum (q : FVec F S16x512 .f32) (r : FVec F S16x512 .bf16) : FVec F S16x512 .f32 := addf q (extf .f32 r bitsLt_bf16_f32)
/-- The scatter's running sum, and its start. -/
def osum (q : FVec F S8x512 .f32) (r : FVec F S8x512 .bf16) : FVec F S8x512 .f32 := addf q (extf .f32 r bitsLt_bf16_f32)
def wide8 (r : FVec F S8x512 .bf16) : FVec F S8x512 .f32 := extf .f32 r bitsLt_bf16_f32

/-! ## The operations -/

/-- Start the copy of layer `k`'s two weights into slot `s`, and wait for it. -/
def startW (k : Fin 3) (s : Fin 2) : PG F PUnit := do
  Prog.lift (.enqueueDma (hinM k) (.here (wiV s)) (.dma (wS k 0)) (hinM_whole k).wordExact (wiV_words s) ⟨Or.inl rfl, trivial⟩)
  Prog.lift (.enqueueDma (houtM k) (.here (woV s)) (.dma (wS k 1)) (houtM_whole k).wordExact (woV_words s) ⟨Or.inl rfl, trivial⟩)
def waitW (k : Fin 3) (s : Fin 2) : PG F PUnit := do
  Prog.lift (.waitDma2 (wS k 0) (hinM k) (wiV s) (hinM_whole k).wordExact (wiV_words s))
  Prog.lift (.waitDma2 (wS k 1) (houtM k) (woV s) (houtM_whole k).wordExact (woV_words s))

/-- Signal the barrier of the device `r`. -/
def signal (c : Dev nD) (r : Fin 7) : PG F PUnit := semSignalWord (bDev r c) barS 1#32
def waitBar : PG F PUnit := semWaitWord barS 7#32

/-- Which of the two send slots transfer `j` sends: the first three send a device's own partial block, the last the group's sum. -/
def srcK (j : Fin 4) : Fin 2 := (![0, 0, 0, 1] : Fin 4 → Fin 2) j

/-- Start transfer `j` of slot `lb`; wait until it has left; wait until the one into this device has arrived. -/
def send (c : Dev nD) (lb : Fin 8) (j : Fin 4) : PG F PUnit :=
  Prog.lift (.enqueueDma (sndV lb (srcK j)) (.remote (Dev.tc (xDev lb j c)) (rcvV lb j) (.dma (sndS lb j))) (.dma (rcvS lb j))
    (sndV_words lb (srcK j)) (rcvV_words lb j) ⟨⟨rfl, Or.inl rfl⟩, trivial⟩)
def waitX (lb : Fin 8) (j : Fin 4) : PG F PUnit := do
  Prog.lift (.waitDma2 (sndS lb j) (rcvV lb j) (sndV lb (srcK j)) (rcvV_words lb j) (sndV_words lb (srcK j)))
  Prog.lift (.waitDma2 (rcvS lb j) (sndV lb (srcK j)) (rcvV lb j) (sndV_words lb (srcK j)) (rcvV_words lb j))

/-- Read received slot `j` of `lb`; read a weight slot; overwrite a send slot (after reading it, unused). -/
def loadR (lb : Fin 8) (j : Fin 4) : PG F (Vec F S1x1x16x512 .bf16) :=
  Prog.lift (.load rcvM (rcvR lb j).toLoadRect (View.loadsAt_vmem h_S1x1x16x512))
def loadWi (s : Fin 2) : PG F (Vec F S512x1024 .f32) :=
  Prog.lift (.load (wiV s) (Rect.unit (s := S512x1024) ![0, 0] S512x1024.size inb_S512x1024_S512x1024_0_0).toLoadRect (View.loadsAt_vmem h_S512x1024))
def loadWo (s : Fin 2) : PG F (Vec F S1024x512 .f32) :=
  Prog.lift (.load (woV s) (Rect.unit (s := S1024x512) ![0, 0] S1024x512.size inb_S1024x512_S1024x512_0_0).toLoadRect (View.loadsAt_vmem h_S1024x512))
def storeS (lb : Fin 8) (k : Fin 2) (v : FVec F S16x512 .bf16) : PG F PUnit := do
  let _ ← (Prog.lift (.load sndM (sndR lb k).toLoadRect (View.loadsAt_vmem h_S1x1x16x512)) : PG F (Vec F S1x1x16x512 .bf16))
  Prog.lift (.store sndM (sndR lb k) (toSlot v) Finset.univ
    (View.stores_vmem h_S1x1x16x512 ((Memref.isWhole_whole _).storeExact_slice rfl _ (snd_packed lb k)) (fun _ => rfl)) (.inl rfl))

/-! ## The blocks -/

/-- The layer's value on a block `x` of rows, from weight slot `s`, `mid` run between reading and storing; stored and sent to the
    three other devices of the group. -/
def emit (c : Dev nD) (lb : Fin 8) (s : Fin 2) (mid : PG F PUnit) (x : FVec F S16x512 .f32) : PG F (FVec F S16x512 .f32) := do
  let w1 ← loadWi s
  let w2 ← loadWo s
  mid
  storeS lb 0 (narrow (dense x w1 w2))
  send c lb 0
  send c lb 1
  send c lb 2
  pure (dense x w1 w2)

/-- A block of the staged activations. -/
def loadX (b : Fin 4) : PG F (Vec F S16x512 .f32) :=
  Prog.lift (.load xM (blkR b).toLoadRect (View.loadsAt_vmem h_S16x512))

/-- The first layer's block `b`. -/
def first (c : Dev nD) (lb : Fin 8) (b : Fin 4) (mid : PG F PUnit) : PG F (FVec F S16x512 .f32) := do
  let x ← loadX b
  emit c lb 0 mid (same16 x)

/-- The group's sum of slot `lb`, sent to the other group. -/
def group (c : Dev nD) (lb : Fin 8) (a : FVec F S16x512 .f32) : PG F (FVec F S16x512 .f32) := do
  waitX lb 0
  waitX lb 1
  waitX lb 2
  let r0 ← loadR lb 0
  let r1 ← loadR lb 1
  let r2 ← loadR lb 2
  storeS lb 1 (narrow (gsum a (ofSlot r0) (ofSlot r1) (ofSlot r2)))
  send c lb 3
  pure (gsum a (ofSlot r0) (ofSlot r1) (ofSlot r2))

/-- The other group's sum of slot `lb` received and added. -/
def cross (lb : Fin 8) (q : FVec F S16x512 .f32) : PG F (FVec F S16x512 .f32) := do
  waitX lb 3
  let r ← loadR lb 3
  pure (psum q (ofSlot r))

/-- The second layer's block. -/
def second (c : Dev nD) (lb lb' : Fin 8) (q : FVec F S16x512 .f32) : PG F (FVec F S16x512 .f32) := do
  let x ← cross lb q
  emit c lb' 1 (pure ⟨⟩) x

/-- The third layer's block, stored among the rows to scatter. -/
def third (lb : Fin 8) (b : Fin 4) (q : FVec F S16x512 .f32) : PG F PUnit := do
  let x ← cross lb q
  let w1 ← loadWi 0
  let w2 ← loadWo 0
  let _ ← (Prog.lift (.load rsM (blkR b).toLoadRect (View.loadsAt_vmem h_S16x512)) : PG F (Vec F S16x512 .bf16))
  Prog.lift (.store rsM (blkR b) (same16b (narrow (dense x w1 w2))) Finset.univ
    (View.stores_vmem h_S16x512 ((Memref.isWhole_whole _).storeExact_slice rfl _ (blk_packed b)) (fun _ => rfl)) (.inl rfl))

/-- Start the scatter's transfer `r`; wait for it and for the one into this device, and read what it brought. -/
def sendRs (c : Dev nD) (r : Fin 7) : PG F PUnit :=
  Prog.lift (.enqueueDma (rsV c r) (.remote (Dev.tc (rDev r c)) (rrV r) (.dma (rssS r))) (.dma (rsrS r))
    (rsV_words c r) (rrV_words r) ⟨⟨rfl, Or.inl rfl⟩, trivial⟩)
def takeRs (c : Dev nD) (r : Fin 7) (o : FVec F S8x512 .f32) : PG F (FVec F S8x512 .f32) := do
  Prog.lift (.waitDma2 (rssS r) (rrV r) (rsV c r) (rrV_words r) (rsV_words c r))
  Prog.lift (.waitDma2 (rsrS r) (rsV c r) (rrV r) (rsV_words c r) (rrV_words r))
  let v ← (Prog.lift (.load rrM (rrR r).toLoadRect (View.loadsAt_vmem h_S1x8x512)) : PG F (Vec F S1x8x512 .bf16))
  pure (osum o (ofSlot8 v))

/-- The entry: the first two layers' weights on their way, every other device signalled, the first layer's weights awaited. -/
def entry (c : Dev nD) : PG F PUnit := do
  startW 0 0
  startW 1 1
  signal c 0
  signal c 1
  signal c 2
  signal c 3
  signal c 4
  signal c 5
  signal c 6
  waitW 0 0

/-- The scatter and the output. -/
def scatter (c : Dev nD) : PG F PUnit := do
  sendRs c 5
  sendRs c 1
  sendRs c 4
  sendRs c 6
  sendRs c 0
  sendRs c 2
  sendRs c 3
  let own ← (Prog.lift (.load rsM (ownR c).toLoadRect (View.loadsAt_vmem h_S8x512)) : PG F (Vec F S8x512 .bf16))
  let o ← takeRs c 3 (wide8 own)
  let o ← takeRs c 2 o
  let o ← takeRs c 0 o
  let o ← takeRs c 6 o
  let o ← takeRs c 4 o
  let o ← takeRs c 1 o
  let o ← takeRs c 5 o
  let _ ← (Prog.lift (.load oM (Rect.unit (s := S8x512) ![0, 0] S8x512.size inb_S8x512_S8x512_0_0).toLoadRect (View.loadsAt_vmem h_S8x512)) : PG F (Vec F S8x512 .f32))
  Prog.lift (.store oM (Rect.unit (s := S8x512) ![0, 0] S8x512.size inb_S8x512_S8x512_0_0) o Finset.univ (View.stores_vmem_bits_univ h_S8x512 rfl) (.inl rfl))

/-- The whole body on device `c`. -/
def bodyOn (c : Dev nD) : PG F PUnit := do
  entry c
  let a0 ← first c 0 0 waitBar
  let a1 ← first c 1 1 (pure ⟨⟩)
  let a2 ← first c 2 2 (pure ⟨⟩)
  let a3 ← first c 3 3 (pure ⟨⟩)
  startW 2 0
  let q0 ← group c 0 a0
  let q1 ← group c 1 a1
  let q2 ← group c 2 a2
  let q3 ← group c 3 a3
  waitW 1 1
  let a4 ← second c 0 4 q0
  let a5 ← second c 1 5 q1
  let a6 ← second c 2 6 q2
  let a7 ← second c 3 7 q3
  let q4 ← group c 4 a4
  let q5 ← group c 5 a5
  let q6 ← group c 6 a6
  let q7 ← group c 7 a7
  waitW 2 0
  third 4 0 q4
  third 5 1 q5
  third 6 2 q6
  third 7 3 q7
  scatter c

/-- The printed body is this composition. -/
theorem body_eq :
    cc0_body (F := F) (Memref.whole cc0_stg0_0) (Memref.isWhole_whole _) (Memref.whole main_arg1) (Memref.isWhole_whole _) (Memref.whole main_arg4) (Memref.isWhole_whole _)
      (Memref.whole main_arg2) (Memref.isWhole_whole _) (Memref.whole main_arg5) (Memref.isWhole_whole _) (Memref.whole main_arg3) (Memref.isWhole_whole _)
      (Memref.whole main_arg6) (Memref.isWhole_whole _) (Memref.whole cc0_stg1_0) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10
    = (Prog.lift .deviceId >>= fun c : Dev nD => bodyOn c) := by
  chain_rfl

end Cert.MlpProof

end
-- ==== Proof.Cells.lean ====
/-
# The semaphore cells, what each transfer carries, and who owes what

Every semaphore of the kernel is used for one round: the barrier semaphore gets seven units, one from every other device;
every DMA semaphore gets the bytes of one transfer. This module names the cells, says what the arrival of each unit
hands to the cell's owner (`sched`), what each device owes the others at the start in the order in which it pays
(`owedL`), and the level of each cell, by which no wait can close a circle.
-/
module

public import proofs.«01_k».proof.Proof.Blocks
public import Idealize.ShloMosaic.Lib.Exec.Context

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline library's, and the cells' rounds, whose duties are named by the seven other devices. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices -/

/-- Which of the seven other devices transfer `j` of a slot goes to. -/
def xIdx (j : Fin 4) : Fin 7 := (![1, 0, 2, 3] : Fin 4 → Fin 7) j

theorem xDev_eq : ∀ (lb : Fin 8) (j : Fin 4) (c : Dev nD), xDev lb j c = bDev (xIdx j) c := by decide +kernel
theorem rDev_eq : ∀ (r : Fin 7) (c : Dev nD), rDev r c = bDev r c := by decide +kernel
theorem bDev_bDev : ∀ (r : Fin 7) (c : Dev nD), bDev r (bDev r c) = c := by decide +kernel
theorem xDev_xDev (lb : Fin 8) (j : Fin 4) (c : Dev nD) : xDev lb j (xDev lb j c) = c := by rw [xDev_eq, xDev_eq, bDev_bDev]
theorem rDev_rDev (r : Fin 7) (c : Dev nD) : rDev r (rDev r c) = c := by rw [rDev_eq, rDev_eq, bDev_bDev]

/-- The exchange with the `r`-th other device, as a permutation of the devices. -/
def bPerm (r : Fin 7) : Dev nD ≃ Dev nD := ⟨bDev r, bDev r, bDev_bDev r, bDev_bDev r⟩
def xPerm (lb : Fin 8) (j : Fin 4) : Dev nD ≃ Dev nD := ⟨xDev lb j, xDev lb j, xDev_xDev lb j, xDev_xDev lb j⟩
def rPerm (r : Fin 7) : Dev nD ≃ Dev nD := ⟨rDev r, rDev r, rDev_rDev r, rDev_rDev r⟩

/-! ## The cells -/

/-- A transfer's slot and number; the kernel's own semaphores — send, receive, scatter's send, scatter's receive, weights —;
    all, the barrier semaphore first. -/
abbrev XI : Type := Fin 8 × Fin 4
abbrev Own : Type := XI ⊕ XI ⊕ Fin 7 ⊕ Fin 7 ⊕ (Fin 3 × Fin 2)
abbrev Cl : Type := Unit ⊕ Own

instance : DecidableEq (Fin 7 ⊕ (Fin 3 × Fin 2)) := instDecidableEqSum
instance : DecidableEq (Fin 7 ⊕ Fin 7 ⊕ (Fin 3 × Fin 2)) := instDecidableEqSum
instance : DecidableEq (XI ⊕ Fin 7 ⊕ Fin 7 ⊕ (Fin 3 × Fin 2)) := instDecidableEqSum
instance : DecidableEq Own := instDecidableEqSum
instance : DecidableEq Cl := instDecidableEqSum

abbrev kBar : Cl := .inl ()
abbrev oSnd (lb : Fin 8) (j : Fin 4) : Own := .inl (lb, j)
abbrev oRcv (lb : Fin 8) (j : Fin 4) : Own := .inr (.inl (lb, j))
abbrev oRss (r : Fin 7) : Own := .inr (.inr (.inl r))
abbrev oRsr (r : Fin 7) : Own := .inr (.inr (.inr (.inl r)))
abbrev oW (k : Fin 3) (i : Fin 2) : Own := .inr (.inr (.inr (.inr (k, i))))

def osem : Own → SemLoc sig
  | .inl x => .dma (sndS x.1 x.2)
  | .inr (.inl x) => .dma (rcvS x.1 x.2)
  | .inr (.inr (.inl r)) => .dma (rssS r)
  | .inr (.inr (.inr (.inl r))) => .dma (rsrS r)
  | .inr (.inr (.inr (.inr x))) => .dma (wS x.1 x.2)
def csem : Cl → SemLoc sig
  | .inl _ => .reg barS
  | .inr o => osem o

/-- Which cell a semaphore is: by its number, the send semaphores beginning at 2, the receive semaphores at 34, the scatter's at 66
    and 73, the weights' at 80. -/
def dec : SemLoc sig → Option Cl
  | .reg s => if s = barS then some kBar else none
  | .dma q =>
    if h0 : q.val < 2 then none
    else if h1 : q.val < 34 then some (.inr (oSnd ⟨(q.val - 2) / 4, by omega⟩ ⟨(q.val - 2) % 4, by omega⟩))
    else if h2 : q.val < 66 then some (.inr (oRcv ⟨(q.val - 34) / 4, by omega⟩ ⟨(q.val - 34) % 4, by omega⟩))
    else if h3 : q.val < 73 then some (.inr (oRss ⟨q.val - 66, by omega⟩))
    else if h4 : q.val < 80 then some (.inr (oRsr ⟨q.val - 73, by omega⟩))
    else some (.inr (oW ⟨(q.val - 80) / 2, by have := q.isLt; change q.val < 86 at this; omega⟩ ⟨(q.val - 80) % 2, by omega⟩))

theorem dec_snd : ∀ lb j, dec (.dma (sndS lb j)) = some (.inr (oSnd lb j)) := by decide +kernel
theorem dec_rcv : ∀ lb j, dec (.dma (rcvS lb j)) = some (.inr (oRcv lb j)) := by decide +kernel
theorem dec_rss : ∀ r, dec (.dma (rssS r)) = some (.inr (oRss r)) := by decide +kernel
theorem dec_rsr : ∀ r, dec (.dma (rsrS r)) = some (.inr (oRsr r)) := by decide +kernel
theorem dec_w : ∀ k i, dec (.dma (wS k i)) = some (.inr (oW k i)) := by decide +kernel
theorem dec_bar : dec (.reg barS) = some kBar := by decide +kernel
theorem dec_csem (k : Cl) : dec (csem k) = some k := by
  rcases k with ⟨⟩ | x | x | r | r | x
  · exact dec_bar
  · exact dec_snd x.1 x.2
  · exact dec_rcv x.1 x.2
  · exact dec_rss r
  · exact dec_rsr r
  · exact dec_w x.1 x.2

abbrev kcell (ck : Dev nD × Cl) : GSem nD τ sig := ((ck.1 : Thread nD τ), csem ck.2)
abbrev bcell (c : Dev nD) : GSem nD τ sig := ((c : Thread nD τ), .reg barS)
abbrev ocell (c : Dev nD) (o : Own) : GSem nD τ sig := ((c : Thread nD τ), osem o)

theorem kcell_injective : Function.Injective (kcell : Dev nD × Cl → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← dec_csem, ← dec_csem, h2]
  rw [h1, Option.some.inj h3]

/-- The units a cell gets: one for each signal, a transfer's credit for each transfer. -/
def cellAmt : Cl → ℕ
  | .inl _ => 1
  | .inr (.inl _) => 512
  | .inr (.inr (.inl _)) => 512
  | .inr (.inr (.inr (.inl _))) => 256
  | .inr (.inr (.inr (.inr (.inl _)))) => 256
  | .inr (.inr (.inr (.inr (.inr _)))) => 65536

theorem cellAmt_pos (k : Cl) : 0 < cellAmt k := by
  rcases k with ⟨⟩ | x | x | r | r | x
  · exact Nat.one_pos
  · exact Nat.succ_pos 511
  · exact Nat.succ_pos 511
  · exact Nat.succ_pos 255
  · exact Nat.succ_pos 255
  · exact Nat.succ_pos 65535

theorem sig_snd : sig.dmaCredit .tc (Kind.table .tc .vmem) cc0_scratch0.idx S16x512 .bf16 = 512 := by decide +kernel
theorem sig_rcv : sig.dmaCredit .tc (Kind.table .tc .vmem) cc0_scratch1.idx S16x512 .bf16 = 512 := by decide +kernel
theorem sig_rs : sig.dmaCredit .tc (Kind.table .tc .vmem) cc0_scratch2.idx S8x512 .bf16 = 256 := by decide +kernel
theorem sig_rr : sig.dmaCredit .tc (Kind.table .tc .vmem) cc0_scratch3.idx S8x512 .bf16 = 256 := by decide +kernel
theorem sig_wi : sig.dmaCredit .tc (Kind.table .tc .vmem) cc0_scratch4.idx S512x1024 .f32 = 65536 := by decide +kernel
theorem sig_wo : sig.dmaCredit .tc (Kind.table .tc .vmem) cc0_scratch5.idx S1024x512 .f32 = 65536 := by decide +kernel
/-- The credits of the transfers, by the buffers they name. -/
theorem credit_snd (lb : Fin 8) (k : Fin 2) : (sndV lb k).view.dmaCredit = 512 :=
  View.dmaCredit_closed _ S16x512 rfl cc0_scratch0.idx rfl _ sig_snd
theorem credit_rcv (lb : Fin 8) (j : Fin 4) : (rcvV lb j).view.dmaCredit = 512 :=
  View.dmaCredit_closed _ S16x512 rfl cc0_scratch1.idx rfl _ sig_rcv
theorem credit_rs (c : Dev nD) (r : Fin 7) : (rsV c r).view.dmaCredit = 256 :=
  View.dmaCredit_closed _ S8x512 rfl cc0_scratch2.idx rfl _ sig_rs
theorem credit_rr (r : Fin 7) : (rrV r).view.dmaCredit = 256 :=
  View.dmaCredit_closed _ S8x512 rfl cc0_scratch3.idx rfl _ sig_rr
theorem credit_wi (s : Fin 2) : (wiV s).view.dmaCredit = 65536 :=
  View.dmaCredit_closed _ S512x1024 rfl cc0_scratch4.idx rfl _ sig_wi
theorem credit_wo (s : Fin 2) : (woV s).view.dmaCredit = 65536 :=
  View.dmaCredit_closed _ S1024x512 rfl cc0_scratch5.idx rfl _ sig_wo

/-! ## The contents -/

/-- The activations as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))

/-- Layer `k`'s two weights on device `c`. -/
def wIn (k : Fin 3) (c : Dev nD) : Vec F S512x1024 .f32 := (hinM k).view.read (Elt F) (m ((hinM k).view.loc (c : Thread nD τ)))
def wOut (k : Fin 3) (c : Dev nD) : Vec F S1024x512 .f32 := (houtM k).view.read (Elt F) (m ((houtM k).view.loc (c : Thread nD τ)))

/-- Block `b` of the activations. -/
def xblk (b : Fin 4) (c : Dev nD) : Vec F S16x512 .f32 := xM.view.readAt (Elt F) (blkR b).toLoadRect (xstg m ρ c)

/-- The slot of block `b` in the first and in the second exchange. -/
def lo (b : Fin 4) : Fin 8 := ⟨b.val, by omega⟩
def hi (b : Fin 4) : Fin 8 := ⟨b.val + 4, by omega⟩

/-- A group's sum, and all devices' sum, of the partial blocks `a`, as device `c` computes them. -/
def groupSum (lb : Fin 8) (a : Dev nD → FVec F S16x512 .f32) (c : Dev nD) : FVec F S16x512 .f32 :=
  gsum (a c) (narrow (a (xDev lb 0 c))) (narrow (a (xDev lb 1 c))) (narrow (a (xDev lb 2 c)))
def allSum (lb : Fin 8) (a : Dev nD → FVec F S16x512 .f32) (c : Dev nD) : FVec F S16x512 .f32 :=
  psum (groupSum lb a c) (narrow (groupSum lb a (xDev lb 3 c)))

/-- The three layers' partial blocks. -/
def partial0 (b : Fin 4) (c : Dev nD) : FVec F S16x512 .f32 := dense (same16 (xblk m ρ b c)) (wIn m 0 c) (wOut m 0 c)
def partial1 (b : Fin 4) (c : Dev nD) : FVec F S16x512 .f32 := dense (allSum (lo b) (partial0 m ρ b) c) (wIn m 1 c) (wOut m 1 c)
def partial2 (b : Fin 4) (c : Dev nD) : FVec F S16x512 .f32 := dense (allSum (hi b) (partial1 m ρ b) c) (wIn m 2 c) (wOut m 2 c)

/-- The partial block of slot `lb`: the first layer's for the first four slots, the second layer's for the others. -/
def aVal (lb : Fin 8) : Dev nD → FVec F S16x512 .f32 :=
  if h : lb.val < 4 then partial0 m ρ ⟨lb.val, h⟩ else partial1 m ρ ⟨lb.val - 4, by omega⟩
theorem aVal_lo (b : Fin 4) : aVal m ρ (lo b) = partial0 m ρ b := by
  unfold aVal lo; rw [dif_pos b.isLt]
theorem aVal_hi (b : Fin 4) : aVal m ρ (hi b) = partial1 m ρ b := by
  unfold aVal hi; rw [dif_neg (by simp)]; congr 1

/-- What send slot `k` of `lb` holds when it is sent. -/
def sVal (lb : Fin 8) (k : Fin 2) (c : Dev nD) : FVec F S16x512 .bf16 :=
  if k = 0 then narrow (aVal m ρ lb c) else narrow (groupSum lb (aVal m ρ lb) c)

/-- What the buffer of rows to scatter holds when it is sent: row block `b` the third layer's, narrowed. -/
def rsBuf (c : Dev nD) : (cc0_scratch2 : Ref sig .tc).ty.Contents (Elt F) := fun i =>
  same16b (narrow (partial2 m ρ (⟨(i 0).val / 16, by have h : (i 0).val < 64 := (i 0).isLt; omega⟩ : Fin 4) c))
    (fun a => match a with
      | ⟨0, _⟩ => ⟨(i 0).val % 16, Nat.mod_lt _ (by decide)⟩
      | ⟨1, _⟩ => i 1)
def rsVal (c : Dev nD) (r : Fin 7) : Vec F S8x512 .bf16 := (rsV c r).view.read (Elt F) (rsBuf m ρ c)
def ownVal (c : Dev nD) : Vec F S8x512 .bf16 := rsM.view.readAt (Elt F) (ownR c).toLoadRect (rsBuf m ρ c)

/-- The output block of device `c`. -/
def outVal (c : Dev nD) : FVec F S8x512 .f32 :=
  let t (r : Fin 7) := rsVal m ρ (rDev r c) r
  osum (osum (osum (osum (osum (osum (osum (wide8 (ownVal m ρ c)) (t 3)) (t 2)) (t 0)) (t 6)) (t 4)) (t 1)) (t 5)

/-- The share of the send slot that transfer `j` holds. -/
def xShare (j : Fin 4) : PosShare TreeShare :=
  (![fullShare.left, fullShare.right.left, fullShare.right.right, fullShare] : Fin 4 → PosShare TreeShare) j

/-- The slot of the weights of layer `k`. -/
def wSlot (k : Fin 3) : Fin 2 := (![0, 1, 0] : Fin 3 → Fin 2) k

/-! ## The schedule -/

/-- A memref held at some contents. -/
def someOf (c : Dev nD) {sp : Space} {s : Shape} {e : EltTy} (v : Memref sig .tc sp s e) : sProp 𝕄 :=
  iprop(∃ X, owns (Ix := Unit) (Name := ℕ) (U := UU) (Lvl := ℕ) (c : Thread nD τ) v fullShare (X : s.Idx → Elt F e))

/-- The receive slot that device `o`'s transfer `x` writes. -/
def dstX (o : Dev nD) (x : XI) : sProp 𝕄 := someOf (F := F) (xDev x.1 x.2 o) (rcvV x.1 x.2)
def dstR (o : Dev nD) (r : Fin 7) : sProp 𝕄 := someOf (F := F) (rDev r o) (rrV r)

/-- What the signal of the `r`-th other device hands device `o`: the slots there that `o` writes. -/
def barPay (o : Dev nD) (r : Fin 7) : sProp 𝕄 :=
  iprop((bigSep Finset.univ fun x : XI => if xIdx x.2 = r then dstX (F := F) o x else iprop(emp)) ∗ dstR (F := F) o r)

/-- What a copy of a weight hands back: the slot holding it, and the weight's array. -/
def wPay (c : Dev nD) (k : Fin 3) (i : Fin 2) : sProp 𝕄 :=
  if i = 0 then iprop(owns (c : Thread nD τ) (wiV (wSlot k)) fullShare (wIn m k c)
      ∗ ((hinM k).view.loc (c : Thread nD τ) ↦[(hinM k).view.set]{fullShare} m ((hinM k).view.loc (c : Thread nD τ))))
  else iprop(owns (c : Thread nD τ) (woV (wSlot k)) fullShare (wOut m k c)
      ∗ ((houtM k).view.loc (c : Thread nD τ) ↦[(houtM k).view.set]{fullShare} m ((houtM k).view.loc (c : Thread nD τ))))

/-- What each cell's units hand device `c`. -/
def cellPay (c : Dev nD) (d : Fin 7) : Cl → sProp 𝕄
  | .inl _ => barPay c d
  | .inr (.inl x) => owns (c : Thread nD τ) (sndV x.1 (srcK x.2)) (xShare x.2) (sVal m ρ x.1 (srcK x.2) c)
  | .inr (.inr (.inl x)) => owns (c : Thread nD τ) (rcvV x.1 x.2) fullShare (sVal m ρ x.1 (srcK x.2) (xDev x.1 x.2 c))
  | .inr (.inr (.inr (.inl r))) => owns (c : Thread nD τ) (rsV c r) fullShare (rsVal m ρ c r)
  | .inr (.inr (.inr (.inr (.inl r)))) => owns (c : Thread nD τ) (rrV r) fullShare (rsVal m ρ (rDev r c) r)
  | .inr (.inr (.inr (.inr (.inr x)))) => wPay m c x.1 x.2

omit [FloatOps F] in
instance someOf_storable (c : Dev nD) {sp : Space} {s : Shape} {e : EltTy} (v : Memref sig .tc sp s e) :
    BI.Storable (upEmb : UEmb _ 𝕄) (someOf (F := F) c v) := by unfold someOf; infer_instance
omit [FloatOps F] in
instance barPay_storable (c : Dev nD) (d : Fin 7) : BI.Storable (upEmb : UEmb _ 𝕄) (barPay (F := F) c d) := by
  have : ∀ x : XI, BI.Storable (upEmb : UEmb _ 𝕄) (if xIdx x.2 = d then dstX (F := F) c x else iprop(emp)) := fun x => by
    split
    · unfold dstX; infer_instance
    · infer_instance
  unfold barPay dstR; infer_instance
instance cellPay_storable (c : Dev nD) (d : Fin 7) (k : Cl) : BI.Storable (upEmb : UEmb _ 𝕄) (cellPay m ρ c d k) := by
  rcases k with ⟨⟩ | x | x | r | r | x
  · exact barPay_storable c d
  · unfold cellPay; infer_instance
  · unfold cellPay; infer_instance
  · unfold cellPay; infer_instance
  · unfold cellPay; infer_instance
  · show BI.Storable upEmb (wPay m c x.1 x.2)
    unfold wPay; split <;> infer_instance

/-- The cell of a semaphore of a TensorCore. -/
def cellAt (g : GSem nD τ sig) : Option Cl := if g.1.2 = .tc then dec g.2 else none
theorem cellAt_kcell (c : Dev nD) (k : Cl) : cellAt (kcell (c, k)) = some k := (if_pos rfl).trans (dec_csem k)
theorem cellAt_bcell (c : Dev nD) : cellAt (bcell c) = some kBar := cellAt_kcell c kBar
theorem cellAt_ocell (c : Dev nD) (o : Own) : cellAt (ocell c o) = some (.inr o) := cellAt_kcell c (.inr o)

/-- The duties of a cell: seven for the barrier, one for every other. -/
def cellDuties : Cl → Finset (Fin 7)
  | .inl _ => Finset.univ
  | .inr _ => {0}

/-- One round. -/
def sched : Rounds.Schedule (GSem nD τ sig) (Fin 7) 𝕄 where
  duties g r := if r = 0 then (cellAt g).elim ∅ cellDuties else ∅
  unitless _ := False
  amount g _ _ := (cellAt g).elim 1 cellAmt
  payload g _ d := (cellAt g).elim iprop(emp) (cellPay m ρ g.1.1 d)
  amount_pos g _ _ _ := by
    cases cellAt g with
    | none => exact Nat.one_pos
    | some k => exact cellAmt_pos k

instance sched_payload_storable (g : GSem nD τ sig) (r : ℕ) (d : Fin 7) :
    BI.Storable (upEmb : UEmb _ 𝕄) ((sched (F := F) m ρ).payload g r d) := by
  show BI.Storable upEmb ((cellAt g).elim iprop(emp) (cellPay m ρ g.1.1 d))
  cases cellAt g with
  | none => exact (inferInstance : BI.Storable (upEmb : UEmb _ 𝕄) (iprop(emp) : sProp 𝕄))
  | some k => exact cellPay_storable m ρ g.1.1 d k

section Sched
variable (c : Dev nD) (k : Cl) (o : Own) (d : Fin 7)

theorem duties_k : (sched (F := F) m ρ).duties (kcell (c, k)) 0 = cellDuties k := by
  dsimp only [sched]; rw [if_pos rfl, cellAt_kcell]; rfl
theorem amount_k : (sched (F := F) m ρ).amount (kcell (c, k)) 0 d = cellAmt k := by
  dsimp only [sched]; rw [cellAt_kcell]; rfl
theorem payload_k : (sched (F := F) m ρ).payload (kcell (c, k)) 0 d = cellPay m ρ c d k := by
  dsimp only [sched]; rw [cellAt_kcell]; rfl
theorem duties_later (g : GSem nD τ sig) : ∀ r, 1 ≤ r → (sched (F := F) m ρ).duties g r = ∅ :=
  fun r hr => by dsimp only [sched]; rw [if_neg (by omega)]
theorem expect_bar : (sched (F := F) m ρ).expect (bcell c) 0 = 7 := by
  unfold Schedule.expect Schedule.amountOf
  rw [show bcell c = kcell (c, kBar) from rfl, duties_k, Finset.sum_congr rfl fun d _ => amount_k m ρ c kBar d]
  show Finset.sum Finset.univ (fun _ : Fin 7 => 1) = 7
  decide
theorem expect_own : (sched (F := F) m ρ).expect (ocell c o) 0 = cellAmt (.inr o) := by
  unfold Schedule.expect Schedule.amountOf
  rw [show ocell c o = kcell (c, .inr o) from rfl, duties_k, Finset.sum_congr rfl fun d _ => amount_k m ρ c (.inr o) d]
  exact Finset.sum_singleton _ _
theorem rest_bar : bigSep ((sched (F := F) m ρ).duties (bcell c) 0 \ ∅) (fun d => (sched (F := F) m ρ).payload (bcell c) 0 d)
    = bigSep Finset.univ fun d => barPay (F := F) c d := by
  rw [Finset.sdiff_empty, show bcell c = kcell (c, kBar) from rfl, duties_k]
  exact bigSep_congr fun d _ => payload_k m ρ c kBar d
theorem rest_own : bigSep ((sched (F := F) m ρ).duties (ocell c o) 0 \ ∅) (fun d => (sched (F := F) m ρ).payload (ocell c o) 0 d)
    = cellPay m ρ c 0 (.inr o) := by
  rw [Finset.sdiff_empty, show ocell c o = kcell (c, .inr o) from rfl, duties_k]
  exact (bigSep_singleton).trans (payload_k m ρ c (.inr o) 0)

end Sched

/-! ## What is owed, in the order in which it is paid -/

/-- A payment: the barrier signal to the `r`-th other device, transfer `j` of slot `lb`, the scatter's transfer `r`. -/
inductive Pay where
  | bar (r : Fin 7)
  | x (lb : Fin 8) (j : Fin 4)
  | rs (r : Fin 7)
  deriving DecidableEq

def payCl : Pay → Cl
  | .bar _ => kBar
  | .x lb j => .inr (oRcv lb j)
  | .rs r => .inr (oRsr r)
def payDev : Pay → Dev nD → Dev nD
  | .bar r => bDev r
  | .x lb j => xDev lb j
  | .rs r => rDev r
theorem payDev_payDev (p : Pay) (c : Dev nD) : payDev p (payDev p c) = c := by
  cases p
  · exact bDev_bDev _ _
  · exact xDev_xDev _ _ _
  · exact rDev_rDev _ _

def owedL (c : Dev nD) : List Pay → CellTallies nD τ sig Unit
  | [] => 0
  | p :: l => owedL c l + tallyAt (kcell (payDev p c, payCl p)) () (cellAmt (payCl p))

/-- The payments in program order. -/
def payScatter : List Pay := [.rs 5, .rs 1, .rs 4, .rs 6, .rs 0, .rs 2, .rs 3]
def payEmit (lb : Fin 8) (l : List Pay) : List Pay := .x lb 0 :: .x lb 1 :: .x lb 2 :: l
def payGroups (a b c d : Fin 8) (l : List Pay) : List Pay := .x a 3 :: .x b 3 :: .x c 3 :: .x d 3 :: l
def payLayer (a b c d : Fin 8) (l : List Pay) : List Pay := payEmit a (payEmit b (payEmit c (payEmit d (payGroups a b c d l))))
def payAfter : List Pay := payLayer 0 1 2 3 (payLayer 4 5 6 7 payScatter)
def payAll : List Pay := .bar 0 :: .bar 1 :: .bar 2 :: .bar 3 :: .bar 4 :: .bar 5 :: .bar 6 :: payAfter

/-- The level of a cell: the device's own copies lowest, then the barrier, then the transfers in program order. -/
def clLv : Cl → ℕ
  | .inl _ => 1
  | .inr (.inl _) => 0
  | .inr (.inr (.inl x)) => (if x.1.val < 4 then 2 else 4) + (if x.2.val < 3 then 0 else 1)
  | .inr (.inr (.inr (.inl _))) => 0
  | .inr (.inr (.inr (.inr (.inl _)))) => 6
  | .inr (.inr (.inr (.inr (.inr _)))) => 0

def L (g : GSem nD τ sig) : Finset Unit := if g.1.2 = .tc then {()} else ∅
def lv (g : GSem nD τ sig) (_ : Unit) : ℕ := (dec g.2).elim 0 clLv

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Cl) (u : Unit) : lv (kcell (c, k)) u = clLv k := by
  unfold lv; rw [show (kcell (c, k)).2 = csem k from rfl, dec_csem]; rfl

/-- What is owed is owed to the cells of the payments listed. -/
theorem owedL_pos (c : Dev nD) (l : List Pay) {g : GSem nD τ sig} {u : Unit} (h : 0 < owedL c l g u) :
    ∃ p ∈ l, g = kcell (payDev p c, payCl p) := by
  induction l with
  | nil => exact absurd h (Nat.lt_irrefl 0)
  | cons p l ih =>
    unfold owedL at h
    rw [Pi.add_apply, Finsupp.add_apply, tallyAt_apply] at h
    by_cases hp : g = kcell (payDev p c, payCl p) ∧ u = ()
    · exact ⟨p, List.mem_cons_self, hp.1⟩
    · rw [if_neg hp, Nat.add_zero] at h
      obtain ⟨q, hq, e⟩ := ih h
      exact ⟨q, List.mem_cons_of_mem _ hq, e⟩

/-- A device may wait on a semaphore whose level lies below those of all cells it still owes. -/
theorem mayWait (c : Dev nD) (sm : SemLoc sig) (l : List Pay) (h : ∀ p ∈ l, (dec sm).elim 0 clLv < clLv (payCl p)) :
    (levAts L lv : sProp 𝕄) ⊢ MayWait (c : Thread nD τ) sm () (owedL c l) :=
  MayOwe.of_cut (L := L) (lev := lv) ((dec sm).elim 0 clLv) (fun p hp => by rw [Finset.mem_singleton.mp hp, L_tc]; exact Finset.mem_singleton_self _)
    (fun g u hg => by obtain ⟨p, -, rfl⟩ := owedL_pos c l hg; rw [L_tc]; exact Finset.mem_singleton_self _)
    (fun p hp => by rw [Finset.mem_singleton.mp hp]; exact le_refl _)
    (fun g u hg => by obtain ⟨p, hp, rfl⟩ := owedL_pos c l hg; rw [lv_kcell]; exact h p hp)

end Cert.MlpProof

end
-- ==== Proof.Steps.lean ====
/-
# The steps of the body

One lemma per operation of `Blocks`: what it takes, what it gives back, and how the program goes on. Every lemma is stated once, for
every slot, transfer and weight.
-/
module

public import proofs.«01_k».proof.Proof.Cells
public import Idealize.ShloMosaic.Lib.Pipeline.Value
public import Idealize.ShloMosaic.Lib.VecWindow

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c`, run to its end. -/
abbrev run (c : Dev nD) {α : Type} (p : PG F α) (Q : α → sProp 𝕄) : sProp 𝕄 :=
  wp frame (wpE (defs₀ (F := F)) 𝒱₀ (c : Thread nD τ) none) Set.univ p Q

/-- A program that has ended. -/
theorem run_ret (c : Dev nD) {α : Type} (a : α) (Q : α → sProp 𝕄) : Q a ⊢ run c (.ret a) Q := by
  unfold run; rw [wp_ret]; iintro H; imodintro; iexact H

omit [FloatOps F] in
theorem to_pay {A B C : sProp 𝕄} (e : C = B) (h : A ⊢ B) : A ⊢ C := e ▸ h

/-! ## Reading and writing slots -/

section Slots
variable (c : Dev nD)

omit [FloatOps F] in
/-- The elements a rectangle of a whole buffer covers. -/
theorem set_whole_on (b : Ref sig .tc) (M : Finset b.ty.shape.Idx) : (View.whole b : View sig .tc _ _ _).setOn M = M := Finset.map_refl

omit [FloatOps F] in
theorem someOf_intro {sp : Space} {s : Shape} {e : EltTy} (v : Memref sig .tc sp s e) (X : s.Idx → Elt F e) :
    (owns (Ix := Unit) (Name := ℕ) (U := UU) (Lvl := ℕ) (c : Thread nD τ) v fullShare X : sProp 𝕄) ⊢ someOf c v := by
  unfold someOf; iintro H; iexists X; iexact H

omit [FloatOps F] in
/-- A received slot held, as part of the whole buffer; likewise a send slot, a slot of the scatter. -/
theorem owns_rcv (lb : Fin 8) (j : Fin 4) (q : PosShare TreeShare) (X : FVec F S16x512 .bf16) :
    (owns (Ix := Unit) (Name := ℕ) (U := UU) (Lvl := ℕ) (c : Thread nD τ) (rcvV lb j) q X : sProp 𝕄)
      = iprop(∃ f : Buf (Elt F) ((c : Thread nD τ).loc cc0_scratch1), ⌜ofSlot (rcvM.view.readAt (Elt F) (rcvR lb j).toLoadRect f) = X⌝
          ∗ ((c : Thread nD τ).loc cc0_scratch1 ↦[(rcvR lb j).set]{q} f)) := by
  have h : (rcvV lb j).view.set = (rcvR lb j).set := by unfold rcvV; rw [Memref.set_view_squeeze]; exact View.set_slice_whole _ _
  unfold owns; rw [h]; rfl
omit [FloatOps F] in
theorem owns_snd (lb : Fin 8) (k : Fin 2) (q : PosShare TreeShare) (X : FVec F S16x512 .bf16) :
    (owns (Ix := Unit) (Name := ℕ) (U := UU) (Lvl := ℕ) (c : Thread nD τ) (sndV lb k) q X : sProp 𝕄)
      = iprop(∃ f : Buf (Elt F) ((c : Thread nD τ).loc cc0_scratch0), ⌜ofSlot (sndM.view.readAt (Elt F) (sndR lb k).toLoadRect f) = X⌝
          ∗ ((c : Thread nD τ).loc cc0_scratch0 ↦[(sndR lb k).set]{q} f)) := by
  have h : (sndV lb k).view.set = (sndR lb k).set := by unfold sndV; rw [Memref.set_view_squeeze]; exact View.set_slice_whole _ _
  unfold owns; rw [h]; rfl
omit [FloatOps F] in
theorem owns_rr (r : Fin 7) (q : PosShare TreeShare) (X : FVec F S8x512 .bf16) :
    (owns (Ix := Unit) (Name := ℕ) (U := UU) (Lvl := ℕ) (c : Thread nD τ) (rrV r) q X : sProp 𝕄)
      = iprop(∃ f : Buf (Elt F) ((c : Thread nD τ).loc cc0_scratch3), ⌜ofSlot8 (rrM.view.readAt (Elt F) (rrR r).toLoadRect f) = X⌝
          ∗ ((c : Thread nD τ).loc cc0_scratch3 ↦[(rrR r).set]{q} f)) := by
  have h : (rrV r).view.set = (rrR r).set := by unfold rrV; rw [Memref.set_view_squeeze]; exact View.set_slice_whole _ _
  unfold owns; rw [h]; rfl

omit [FloatOps F] in
/-- A memref written through whole is held at what was written. -/
theorem owns_write {sp : Space} {s : Shape} {e : EltTy} (v : Memref sig .tc sp s e) (f : Buf (Elt F) (v.view.loc (c : Thread nD τ))) (w : s.Idx → Elt F e) :
    (v.view.loc (c : Thread nD τ) ↦[v.view.set]{fullShare} (v.view.write (Elt F) f w Finset.univ))
      ⊢ (owns (Ix := Unit) (Name := ℕ) (U := UU) (Lvl := ℕ) (c : Thread nD τ) v fullShare w : sProp 𝕄) := by
  unfold owns; iintro H; iexists (v.view.write (Elt F) f w Finset.univ); isplitr
  · ipureintro; exact View.read_write_univ _ _
  · iexact H

/-- Reading received slot `j` of `lb`. -/
theorem run_loadR (lb : Fin 8) (j : Fin 4) (X : FVec F S16x512 .bf16) (Q : Vec F S1x1x16x512 .bf16 → sProp 𝕄) :
    iprop(owns (c : Thread nD τ) (rcvV lb j) fullShare X
        ∗ (∀ r, iprop(⌜ofSlot r = X⌝ -∗ owns (c : Thread nD τ) (rcvV lb j) fullShare X -∗ Q r)))
      ⊢ run c (loadR lb j) Q := by
  unfold loadR
  rw [owns_rcv]
  simp only [Prog.lift]
  iintro ⟨⟨%f, %hf, H⟩, Hk⟩
  iapply (wp_load 𝒱₀ (c : Thread nD τ) none Set.univ (m := rcvM) (S := (rcvR lb j).set) (set_whole_on _ _).le) $$ H
  iintro H
  rw [wp_ret]; imodintro
  iapply Hk $$ [] [H]
  · ipureintro; exact hf
  · iexists f; isplitr
    · ipureintro; exact hf
    · iexact H

/-- Overwriting send slot `k` of `lb`. -/
theorem run_storeS (lb : Fin 8) (k : Fin 2) (v : FVec F S16x512 .bf16) (Q : PUnit → sProp 𝕄) :
    iprop(someOf (F := F) c (sndV lb k) ∗ (owns (c : Thread nD τ) (sndV lb k) fullShare v -∗ Q ⟨⟩))
      ⊢ run c (storeS lb k v) Q := by
  unfold storeS someOf
  simp only [owns_snd]
  simp only [Prog.lift, Prog.bind_op, Prog.bind_ret]
  iintro ⟨⟨%X, %f, %hf, H⟩, Hk⟩
  iapply (wp_load 𝒱₀ (c : Thread nD τ) none Set.univ (m := sndM) (S := (sndR lb k).set) (set_whole_on _ _).le) $$ H
  iintro H
  iapply (wp_store 𝒱₀ (c : Thread nD τ) none Set.univ (m := sndM) (r := sndR lb k) (Mk := Finset.univ) (S := (sndR lb k).set) (View.set_slice_whole _ _).le) $$ H
  iintro H
  rw [wp_ret]; imodintro
  iapply Hk
  iexists _; isplitr [H]
  · ipureintro
    show ofSlot ((sndM.access (sndR lb k)).read (Elt F) ((sndM.access (sndR lb k)).write (Elt F) f (toSlot v) Finset.univ)) = v
    rw [View.read_write_univ]
    exact shapeCast_shapeCast _ _ _
  · iexact H

/-- Reading a weight slot. -/
theorem run_loadWi (s : Fin 2) (X : Vec F S512x1024 .f32) (Q : Vec F S512x1024 .f32 → sProp 𝕄) :
    iprop(owns (c : Thread nD τ) (wiV s) fullShare X ∗ (owns (c : Thread nD τ) (wiV s) fullShare X -∗ Q X)) ⊢ run c (loadWi s) Q := by
  unfold loadWi owns
  simp only [Prog.lift]
  iintro ⟨⟨%f, %hf, H⟩, Hk⟩
  iapply (wp_load 𝒱₀ (c : Thread nD τ) none Set.univ (m := wiV s) (S := (wiV s).view.set) (View.setOn_subset_set _ _)) $$ H
  iintro H
  rw [View.readAt_full, hf, wp_ret]; imodintro
  iapply Hk
  iexists f; isplitr
  · ipureintro; exact hf
  · iexact H
theorem run_loadWo (s : Fin 2) (X : Vec F S1024x512 .f32) (Q : Vec F S1024x512 .f32 → sProp 𝕄) :
    iprop(owns (c : Thread nD τ) (woV s) fullShare X ∗ (owns (c : Thread nD τ) (woV s) fullShare X -∗ Q X)) ⊢ run c (loadWo s) Q := by
  unfold loadWo owns
  simp only [Prog.lift]
  iintro ⟨⟨%f, %hf, H⟩, Hk⟩
  iapply (wp_load 𝒱₀ (c : Thread nD τ) none Set.univ (m := woV s) (S := (woV s).view.set) (View.setOn_subset_set _ _)) $$ H
  iintro H
  rw [View.readAt_full, hf, wp_ret]; imodintro
  iapply Hk
  iexists f; isplitr
  · ipureintro; exact hf
  · iexact H

end Slots

/-! ## What a device holds -/

section Held
variable (m : (ℓ : Loc nD τ sig) → Buf (Elt F) ℓ) (ρ : Dev nD → PrngReg) (K : Dev nD × Cl → ℕ) (c : Dev nD)

/-- The cells' invariants and that each is in its first round, for all devices; the levels. -/
def ctx : sProp 𝕄 :=
  iprop(((bigSep Finset.univ fun ck : Dev nD × Cl => cellInv ER (sched (F := F) m ρ) (K ck) (kcell ck))
    ∗ (bigSep Finset.univ fun ck : Dev nD × Cl => reached ER (kcell ck) 0)) ∗ levAts L lv)

instance ctx_persistent : BI.Persistent (ctx (F := F) m ρ K) := by unfold ctx; infer_instance

theorem ctx_inv (ck : Dev nD × Cl) : ctx (F := F) m ρ K ⊢ cellInv ER (sched (F := F) m ρ) (K ck) (kcell ck) := by
  unfold ctx; iintro ⟨⟨#H, -⟩, -⟩
  iapply (show _ ⊢ cellInv ER (sched (F := F) m ρ) (K ck) (kcell ck) from
    bigSep_elim (Φ := fun ck : Dev nD × Cl => cellInv ER (sched (F := F) m ρ) (K ck) (kcell ck)) (Finset.mem_univ ck)); iexact H
theorem ctx_reached (ck : Dev nD × Cl) : ctx (F := F) m ρ K ⊢ reached ER (kcell ck) 0 := by
  unfold ctx; iintro ⟨⟨-, #H⟩, -⟩
  iapply (show _ ⊢ (reached ER (kcell ck) 0 : sProp 𝕄) from
    bigSep_elim (Φ := fun ck : Dev nD × Cl => (reached ER (kcell ck) 0 : sProp 𝕄)) (Finset.mem_univ ck)); iexact H
theorem ctx_levAts : ctx (F := F) m ρ K ⊢ levAts L lv := by
  unfold ctx; iintro ⟨-, #H⟩; iexact H

/-- What is still to be paid. -/
def ow (l : List Pay) : sProp 𝕄 := iprop(∃ W, owes (c : Thread nD τ) (owedL c l) W)

/-- A barrier signal's token and what it hands over. -/
def sigTok (r : Fin 7) : sProp 𝕄 :=
  iprop(dutyTok ER (bcell (bDev r c)) 0 r
    ∗ (bigSep Finset.univ fun x : XI => if xIdx x.2 = r then someOf (F := F) c (rcvV x.1 x.2) else iprop(emp)) ∗ someOf (F := F) c (rrV r))
/-- The barrier's cell before its wait. -/
def barTok : sProp 𝕄 := iprop(cred (tallyAt (bcell c) () 7) ∗ atPos ER (bcell c) 0 ∅ 0)

/-- A transfer of the exchange before it starts, and while it is under way; after both waits the two counters are back. -/
def xTok (lb : Fin 8) (j : Fin 4) : sProp 𝕄 :=
  iprop(dutyTok ER (ocell c (oSnd lb j)) 0 (0 : Fin 7) ∗ dutyTok ER (ocell (xDev lb j c) (oRcv lb j)) 0 (0 : Fin 7)
    ∗ atPos ER (ocell c (oSnd lb j)) 0 ∅ 0 ∗ atPos ER (ocell c (oRcv lb j)) 0 ∅ 0
    ∗ cred (tallyAt (ocell c (oRcv lb j)) () (cellAmt (.inr (oRcv lb j)))))
def xWait (lb : Fin 8) (j : Fin 4) : sProp 𝕄 :=
  iprop(cred (tallyAt (ocell c (oSnd lb j)) () (cellAmt (.inr (oSnd lb j)))) ∗ atPos ER (ocell c (oSnd lb j)) 0 ∅ 0
    ∗ atPos ER (ocell c (oRcv lb j)) 0 ∅ 0 ∗ cred (tallyAt (ocell c (oRcv lb j)) () (cellAmt (.inr (oRcv lb j)))))
def xDone (lb : Fin 8) (j : Fin 4) : sProp 𝕄 := iprop(semVal (ocell c (oSnd lb j)) 0 ∗ semVal (ocell c (oRcv lb j)) 0)

/-- The same for a transfer of the scatter, -/
def rTok (r : Fin 7) : sProp 𝕄 :=
  iprop(dutyTok ER (ocell c (oRss r)) 0 (0 : Fin 7) ∗ dutyTok ER (ocell (rDev r c) (oRsr r)) 0 (0 : Fin 7)
    ∗ atPos ER (ocell c (oRss r)) 0 ∅ 0 ∗ atPos ER (ocell c (oRsr r)) 0 ∅ 0
    ∗ cred (tallyAt (ocell c (oRsr r)) () (cellAmt (.inr (oRsr r)))))
def rWait (r : Fin 7) : sProp 𝕄 :=
  iprop(cred (tallyAt (ocell c (oRss r)) () (cellAmt (.inr (oRss r)))) ∗ atPos ER (ocell c (oRss r)) 0 ∅ 0
    ∗ atPos ER (ocell c (oRsr r)) 0 ∅ 0 ∗ cred (tallyAt (ocell c (oRsr r)) () (cellAmt (.inr (oRsr r)))))
def rDone (r : Fin 7) : sProp 𝕄 := iprop(semVal (ocell c (oRss r)) 0 ∗ semVal (ocell c (oRsr r)) 0)

/-- and for the copy of a weight. -/
def wTok (k : Fin 3) (i : Fin 2) : sProp 𝕄 := iprop(dutyTok ER (ocell c (oW k i)) 0 (0 : Fin 7) ∗ atPos ER (ocell c (oW k i)) 0 ∅ 0)
def wWait (k : Fin 3) (i : Fin 2) : sProp 𝕄 :=
  iprop(cred (tallyAt (ocell c (oW k i)) () (cellAmt (.inr (oW k i)))) ∗ atPos ER (ocell c (oW k i)) 0 ∅ 0)

/-- The arrays of layer `k`'s weights. -/
def inPts (k : Fin 3) : sProp 𝕄 :=
  ((hinM k).view.loc (c : Thread nD τ) ↦[(hinM k).view.set]{fullShare} m ((hinM k).view.loc (c : Thread nD τ)))
def outPts (k : Fin 3) : sProp 𝕄 :=
  ((houtM k).view.loc (c : Thread nD τ) ↦[(houtM k).view.set]{fullShare} m ((houtM k).view.loc (c : Thread nD τ)))

end Held

/-! ## Signals, transfers, waits -/

section Comm
variable (m : (ℓ : Loc nD τ sig) → Buf (Elt F) ℓ) (ρ : Dev nD → PrngReg) (K : Dev nD × Cl → ℕ) (c : Dev nD) (l : List Pay)

/-- The slots device `c` hands to the device `bDev r c` are those that device writes. -/
theorem barPay_of (r : Fin 7) :
    iprop((bigSep Finset.univ fun x : XI => if xIdx x.2 = r then someOf (F := F) c (rcvV x.1 x.2) else iprop(emp)) ∗ someOf (F := F) c (rrV r))
      = barPay (F := F) (bDev r c) r := by
  unfold barPay
  rw [show dstR (F := F) (bDev r c) r = someOf (F := F) c (rrV r) by unfold dstR; rw [rDev_eq, bDev_bDev]]
  congr 1
  refine bigSep_congr fun x _ => ?_
  by_cases h : xIdx x.2 = r
  · rw [if_pos h, if_pos h]; unfold dstX; rw [xDev_eq, h, bDev_bDev]
  · rw [if_neg h, if_neg h]

/-- Signalling the barrier of the `r`-th other device. -/
theorem run_signal (r : Fin 7) (Q : PUnit → sProp 𝕄) :
    iprop(ctx (F := F) m ρ K ∗ sigTok (F := F) c r ∗ ow (F := F) c (.bar r :: l) ∗ (ow (F := F) c l -∗ Q ⟨⟩))
      ⊢ run c (signal c r) Q := by
  unfold signal sigTok ow
  rw [barPay_of]
  simp only [semSignalWord, Prog.lift]
  iintro ⟨#HC, ⟨Ht, Hp⟩, ⟨%W, Ho⟩, Hk⟩
  ihave HI := (ctx_inv m ρ K (bDev r c, kBar)) $$ HC
  ihave HR := (ctx_reached m ρ K (bDev r c, kBar)) $$ HC
  iapply (Rounds.wp_signal 𝒱₀ ER (sched m ρ) (c : Thread nD τ) none (dst := (bDev r c : Thread nD τ)) (κ := K (bDev r c, kBar))
      (d := r) (r := 0) ((duties_k m ρ (bDev r c) kBar).symm ▸ Finset.mem_univ _) ((amount_k m ρ (bDev r c) kBar r).trans (by decide)) () (owedL c l) rfl)
    $$ [Ho Ht Hp HI HR]
  · isplitl [HI]; · iexact HI
    isplitl [Ho]; · iexact Ho
    isplitl [Ht]; · iexact Ht
    isplitl [Hp]
    · iapply (Entails.of_eq (show barPay (F := F) (bDev r c) r = (sched m ρ).payload ((bDev r c : Thread nD τ), .reg barS) 0 r from
        (payload_k m ρ (bDev r c) kBar r).symm)); iexact Hp
    iexact HR
  iintro Ho
  rw [wp_ret]; imodintro
  iapply Hk; iexists W; iexact Ho

/-- The barrier's wait: every slot this device will write, on the other devices. -/
theorem run_waitBar (hl : ∀ p ∈ l, 1 < clLv (payCl p)) (Q : PUnit → sProp 𝕄) :
    iprop(ctx (F := F) m ρ K ∗ barTok (F := F) c ∗ ow (F := F) c l
        ∗ ((semVal (bcell c) 0 ∗ (bigSep Finset.univ fun r : Fin 7 => barPay (F := F) c r) ∗ ow (F := F) c l) -∗ Q ⟨⟩))
      ⊢ run c waitBar Q := by
  unfold waitBar barTok ow
  simp only [semWaitWord, Prog.lift]
  iintro ⟨#HC, ⟨Hc, Ha⟩, ⟨%W, Ho⟩, Hk⟩
  ihave #HI := (ctx_inv m ρ K (c, kBar)) $$ HC
  ihave HL := (ctx_levAts m ρ K) $$ HC
  iapply (Rounds.wp_wait_rest_token 𝒱₀ ER (sched m ρ) (c : Thread nD τ) none (κ := K (c, kBar))
      (wpE_semWait_eq 𝒱₀ (c : Thread nD τ) none Set.univ) (Set.mem_univ _) () (O := owedL c l) (W := W) (R := 0) (m := 0) (T := ∅)
      (by rw [expect_bar]; decide)) $$ [Hc Ho Ha HL]
  · isplitr; · iexact HI
    isplitl [Hc]; · iexact Hc
    isplitl [Ho]; · iexact Ho
    isplitl [HL]; · iapply (mayWait c (.reg barS) l (by rw [dec_bar]; exact hl)); iexact HL
    iexact Ha
  iintro ⟨Ho, Ha, -, Hp⟩
  ihave Hp := (Entails.of_eq (rest_bar m ρ c)) $$ Hp
  imod (Rounds.cell_close ER (sched m ρ) (Set.mem_univ (K (c, kBar))) (fun h => h) (R := 0 + 1) (duties_later m ρ (bcell c))) $$ [Ha] with Hz
  · isplitr; · iexact HI
    iexact Ha
  rw [wp_ret]; imodintro
  iapply Hk
  isplitl [Hz]; · iexact Hz
  isplitl [Hp]; · iexact Hp
  iexists _; iexact Ho

/-- A wait on a semaphore of the device's own: what the cell's units bring, and the counter back at zero. -/
theorem op_wait (o : Own) (hl : ∀ p ∈ l, clLv (.inr o) < clLv (payCl p)) {w : TpuEff nD τ sig (Elt F) Λ₀ .tc PUnit} {n : ℕ}
    (hw : ∀ P : PUnit → sProp 𝕄, wpE (defs₀ (F := F)) 𝒱₀ (c : Thread nD τ) none Set.univ w P
      = waitSpec (c : Thread nD τ) Set.univ (osem o) n P) (hn : n = cellAmt (.inr o))
    {α : Type} (k : PUnit → PG F α) (Q : α → sProp 𝕄) :
    iprop(ctx (F := F) m ρ K ∗ cred (tallyAt (ocell c o) () (cellAmt (.inr o))) ∗ atPos ER (ocell c o) 0 ∅ 0 ∗ ow (F := F) c l)
      ⊢ iprop(((semVal (ocell c o) 0 ∗ cellPay m ρ c 0 (.inr o) ∗ ow (F := F) c l) -∗ run c (k ⟨⟩) Q) -∗ run c (.op w k) Q) := by
  subst hn
  unfold ow
  iintro ⟨#HC, Hc, Ha, ⟨%W, Ho⟩⟩ Hk
  ihave #HI := (ctx_inv m ρ K (c, .inr o)) $$ HC
  ihave HL := (ctx_levAts m ρ K) $$ HC
  iapply (Rounds.wp_wait_rest_token 𝒱₀ ER (sched m ρ) (c : Thread nD τ) none (κ := K (c, .inr o)) hw (Set.mem_univ _) ()
      (O := owedL c l) (W := W) (R := 0) (m := 0) (T := ∅) (by rw [Nat.zero_add]; exact (expect_own m ρ c o).symm)) $$ [Hc Ho Ha HL]
  · isplitr; · iexact HI
    isplitl [Hc]; · iexact Hc
    isplitl [Ho]; · iexact Ho
    isplitl [HL]
    · iapply (mayWait c (osem o) l (by rw [show dec (osem o) = some (.inr o) from dec_csem (.inr o)]; exact hl)); iexact HL
    iexact Ha
  iintro ⟨Ho, Ha, -, Hp⟩
  ihave Hp := (Entails.of_eq (rest_own m ρ c o)) $$ Hp
  imod (Rounds.cell_close ER (sched m ρ) (Set.mem_univ (K (c, .inr o))) (fun h => h) (R := 0 + 1) (duties_later m ρ (ocell c o))) $$ [Ha] with Hz
  · isplitr; · iexact HI
    iexact Ha
  iapply Hk
  isplitl [Hz]; · iexact Hz
  isplitl [Hp]; · iexact Hp
  iexists _; iexact Ho

theorem pay_snd (lb : Fin 8) (j : Fin 4) : cellPay m ρ c 0 (.inr (oSnd lb j))
    = owns (c : Thread nD τ) (sndV lb (srcK j)) (xShare j) (sVal m ρ lb (srcK j) c) := rfl
theorem pay_rcv (lb : Fin 8) (j : Fin 4) : cellPay m ρ c 0 (.inr (oRcv lb j))
    = owns (c : Thread nD τ) (rcvV lb j) fullShare (sVal m ρ lb (srcK j) (xDev lb j c)) := rfl
theorem pay_rss (r : Fin 7) : cellPay m ρ c 0 (.inr (oRss r)) = owns (c : Thread nD τ) (rsV c r) fullShare (rsVal m ρ c r) := rfl

theorem pay_w0 (k : Fin 3) : cellPay m ρ c 0 (.inr (oW k 0))
    = iprop(owns (c : Thread nD τ) (wiV (wSlot k)) fullShare (wIn m k c) ∗ inPts m c k) := by
  show wPay m c k 0 = _
  unfold wPay inPts; rw [if_pos rfl]
theorem pay_w1 (k : Fin 3) : cellPay m ρ c 0 (.inr (oW k 1))
    = iprop(owns (c : Thread nD τ) (woV (wSlot k)) fullShare (wOut m k c) ∗ outPts m c k) := by
  show wPay m c k 1 = _
  unfold wPay outPts; rw [if_neg (by decide)]

/-- A cell's only duty. -/
theorem duty_own (c' : Dev nD) (o : Own) : (0 : Fin 7) ∈ (sched (F := F) m ρ).duties (ocell c' o) 0 := by
  rw [show ocell c' o = kcell (c', .inr o) from rfl, duties_k]; exact Finset.mem_singleton_self _

/-- Starting transfer `j` of slot `lb`. -/
theorem run_send (lb : Fin 8) (j : Fin 4) (Q : PUnit → sProp 𝕄) :
    iprop(ctx (F := F) m ρ K ∗ xTok (F := F) c lb j ∗ dstX (F := F) c (lb, j)
        ∗ owns (c : Thread nD τ) (sndV lb (srcK j)) (xShare j) (sVal m ρ lb (srcK j) c) ∗ ow (F := F) c (.x lb j :: l)
        ∗ ((xWait (F := F) c lb j ∗ ow (F := F) c l) -∗ Q ⟨⟩))
      ⊢ run c (send c lb j) Q := by
  unfold send xTok xWait dstX someOf ow owns
  simp only [Prog.lift]
  iintro ⟨#HC, ⟨Ht1, Ht2, Ha1, Ha2, Hc2⟩, ⟨%X, %fd, %hfd, Hd⟩, ⟨%fs, %hfs, Hs⟩, ⟨%W, Ho⟩, Hk⟩
  ihave #HI1 := (ctx_inv m ρ K (c, .inr (oSnd lb j))) $$ HC
  ihave #HI2 := (ctx_inv m ρ K (xDev lb j c, .inr (oRcv lb j))) $$ HC
  ihave #HR1 := (ctx_reached m ρ K (c, .inr (oSnd lb j))) $$ HC
  ihave #HR2 := (ctx_reached m ρ K (xDev lb j c, .inr (oRcv lb j))) $$ HC
  iapply (Rounds.wp_send_pointsTo 𝒱₀ ER (sched m ρ) (c : Thread nD τ) none (c' := (xDev lb j c : Thread nD τ))
      (κ₁ := K (c, .inr (oSnd lb j))) (κ₂ := K (xDev lb j c, .inr (oRcv lb j))) (r₁ := 0) (r₂ := 0) (d₁ := 0) (d₂ := 0)
      (src := sndV lb (srcK j)) (dst := rcvV lb j) (q := xShare j) (fs := fs) (fd := fd)
      (duty_own m ρ c (oSnd lb j)) (duty_own m ρ (xDev lb j c) (oRcv lb j)) () () 512 (credit_rcv lb j)
      (amount_k m ρ c (.inr (oSnd lb j)) 0) (amount_k m ρ (xDev lb j c) (.inr (oRcv lb j)) 0) (owedL c l) rfl (W := W)
      (to_pay (payload_k m ρ c (.inr (oSnd lb j)) 0) (by
        show _ ⊢ owns (Val := Elt F) (c : Thread nD τ) (sndV lb (srcK j)) (xShare j) (sVal m ρ lb (srcK j) c)
        unfold owns; iintro H; iexists fs; isplitr
        · ipureintro; exact hfs
        · iexact H))
      (to_pay (payload_k m ρ (xDev lb j c) (.inr (oRcv lb j)) 0) (by
        show _ ⊢ owns (Val := Elt F) (xDev lb j c : Thread nD τ) (rcvV lb j) fullShare (sVal m ρ lb (srcK j) (xDev lb j (xDev lb j c)))
        rw [xDev_xDev, ← hfs]; exact owns_write _ _ _ _))) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact HR1
    isplitl [Ht2]; · iexact Ht2
    iexact HR2
  iintro ⟨Hc1, Ho⟩
  rw [wp_ret]; imodintro
  iapply Hk
  isplitl [Hc1 Ha1 Ha2 Hc2]
  · isplitl [Hc1]; · iexact Hc1
    isplitl [Ha1]; · iexact Ha1
    isplitl [Ha2]; · iexact Ha2
    iexact Hc2
  · iexists W; iexact Ho

/-- Awaiting transfer `j` of slot `lb`: the share of the send slot is back, the receive slot holds what the other device sent. -/
theorem run_waitX (lb : Fin 8) (j : Fin 4) (hl : ∀ p ∈ l, clLv (.inr (oRcv lb j)) < clLv (payCl p)) (Q : PUnit → sProp 𝕄) :
    iprop(ctx (F := F) m ρ K ∗ xWait (F := F) c lb j ∗ ow (F := F) c l
        ∗ ((xDone (F := F) c lb j ∗ owns (c : Thread nD τ) (sndV lb (srcK j)) (xShare j) (sVal m ρ lb (srcK j) c)
            ∗ owns (c : Thread nD τ) (rcvV lb j) fullShare (sVal m ρ lb (srcK j) (xDev lb j c)) ∗ ow (F := F) c l) -∗ Q ⟨⟩))
      ⊢ run c (waitX lb j) Q := by
  unfold waitX xWait xDone
  simp only [Prog.lift, Prog.bind_op, Prog.bind_ret]
  iintro ⟨#HC, ⟨Hc1, Ha1, Ha2, Hc2⟩, Ho, Hk⟩
  iapply (op_wait m ρ K c l (oSnd lb j) (fun p hp => lt_of_le_of_lt (Nat.zero_le _) (hl p hp))
      (wpE_waitDma2_eq 𝒱₀ (c : Thread nD τ) none Set.univ) (credit_snd lb (srcK j))) $$ [Hc1 Ha1 Ho]
  · isplitr; · iexact HC
    isplitl [Hc1]; · iexact Hc1
    isplitl [Ha1]; · iexact Ha1
    iexact Ho
  iintro ⟨Hz1, Hs, Ho⟩
  ihave Hs := (Entails.of_eq (pay_snd m ρ c lb j)) $$ Hs
  iapply (op_wait m ρ K c l (oRcv lb j) hl (wpE_waitDma2_eq 𝒱₀ (c : Thread nD τ) none Set.univ) (credit_rcv lb j)) $$ [Hc2 Ha2 Ho]
  · isplitr; · iexact HC
    isplitl [Hc2]; · iexact Hc2
    isplitl [Ha2]; · iexact Ha2
    iexact Ho
  iintro ⟨Hz2, Hr, Ho⟩
  ihave Hr := (Entails.of_eq (pay_rcv m ρ c lb j)) $$ Hr
  iapply run_ret
  iapply Hk
  isplitl [Hz1 Hz2]
  · isplitl [Hz1]; · iexact Hz1
    iexact Hz2
  isplitl [Hs]; · iexact Hs
  isplitl [Hr]; · iexact Hr
  iexact Ho

/-- The same two steps for the scatter. -/
theorem run_sendRs (r : Fin 7) (Q : PUnit → sProp 𝕄) :
    iprop(ctx (F := F) m ρ K ∗ rTok (F := F) c r ∗ dstR (F := F) c r
        ∗ owns (c : Thread nD τ) (rsV c r) fullShare (rsVal m ρ c r) ∗ ow (F := F) c (.rs r :: l)
        ∗ ((rWait (F := F) c r ∗ ow (F := F) c l) -∗ Q ⟨⟩))
      ⊢ run c (sendRs c r) Q := by
  unfold sendRs rTok rWait dstR someOf ow owns
  simp only [Prog.lift]
  iintro ⟨#HC, ⟨Ht1, Ht2, Ha1, Ha2, Hc2⟩, ⟨%X, %fd, %hfd, Hd⟩, ⟨%fs, %hfs, Hs⟩, ⟨%W, Ho⟩, Hk⟩
  ihave #HI1 := (ctx_inv m ρ K (c, .inr (oRss r))) $$ HC
  ihave #HI2 := (ctx_inv m ρ K (rDev r c, .inr (oRsr r))) $$ HC
  ihave #HR1 := (ctx_reached m ρ K (c, .inr (oRss r))) $$ HC
  ihave #HR2 := (ctx_reached m ρ K (rDev r c, .inr (oRsr r))) $$ HC
  iapply (Rounds.wp_send_pointsTo 𝒱₀ ER (sched m ρ) (c : Thread nD τ) none (c' := (rDev r c : Thread nD τ))
      (κ₁ := K (c, .inr (oRss r))) (κ₂ := K (rDev r c, .inr (oRsr r))) (r₁ := 0) (r₂ := 0) (d₁ := 0) (d₂ := 0)
      (src := rsV c r) (dst := rrV r) (q := fullShare) (fs := fs) (fd := fd)
      (duty_own m ρ c (oRss r)) (duty_own m ρ (rDev r c) (oRsr r)) () () 256 (credit_rr r)
      (amount_k m ρ c (.inr (oRss r)) 0) (amount_k m ρ (rDev r c) (.inr (oRsr r)) 0) (owedL c l) rfl (W := W)
      (to_pay (payload_k m ρ c (.inr (oRss r)) 0) (by
        show _ ⊢ owns (c : Thread nD τ) (rsV c r) fullShare (rsVal m ρ c r)
        unfold owns; iintro H; iexists fs; isplitr
        · ipureintro; exact hfs
        · iexact H))
      (to_pay (payload_k m ρ (rDev r c) (.inr (oRsr r)) 0) (by
        show _ ⊢ owns (rDev r c : Thread nD τ) (rrV r) fullShare (rsVal m ρ (rDev r (rDev r c)) r)
        rw [rDev_rDev, ← hfs]; exact owns_write _ _ _ _))) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact HR1
    isplitl [Ht2]; · iexact Ht2
    iexact HR2
  iintro ⟨Hc1, Ho⟩
  iapply run_ret
  iapply Hk
  isplitl [Hc1 Ha1 Ha2 Hc2]
  · isplitl [Hc1]; · iexact Hc1
    isplitl [Ha1]; · iexact Ha1
    isplitl [Ha2]; · iexact Ha2
    iexact Hc2
  · iexists W; iexact Ho

/-- Awaiting transfer `r` of the scatter and adding what it brought; nothing is owed any more. -/
theorem run_takeRs (r : Fin 7) (o : FVec F S8x512 .f32) (Q : FVec F S8x512 .f32 → sProp 𝕄) :
    iprop(ctx (F := F) m ρ K ∗ rWait (F := F) c r ∗ ow (F := F) c []
        ∗ ((rDone (F := F) c r ∗ owns (c : Thread nD τ) (rsV c r) fullShare (rsVal m ρ c r)
            ∗ someOf (F := F) c (rrV r) ∗ ow (F := F) c []) -∗ Q (osum o (rsVal m ρ (rDev r c) r))))
      ⊢ run c (takeRs c r o) Q := by
  unfold takeRs rWait rDone
  simp only [Prog.lift, Prog.bind_op, Prog.bind_ret, Prog.pure_eq_ret]
  iintro ⟨#HC, ⟨Hc1, Ha1, Ha2, Hc2⟩, Ho, Hk⟩
  iapply (op_wait m ρ K c [] (oRss r) (fun p hp => absurd hp List.not_mem_nil)
      (wpE_waitDma2_eq 𝒱₀ (c : Thread nD τ) none Set.univ) (credit_rs c r)) $$ [Hc1 Ha1 Ho]
  · isplitr; · iexact HC
    isplitl [Hc1]; · iexact Hc1
    isplitl [Ha1]; · iexact Ha1
    iexact Ho
  iintro ⟨Hz1, Hs, Ho⟩
  ihave Hs := (Entails.of_eq (pay_rss m ρ c r)) $$ Hs
  iapply (op_wait m ρ K c [] (oRsr r) (fun p hp => absurd hp List.not_mem_nil)
      (wpE_waitDma2_eq 𝒱₀ (c : Thread nD τ) none Set.univ) (credit_rr r)) $$ [Hc2 Ha2 Ho]
  · isplitr; · iexact HC
    isplitl [Hc2]; · iexact Hc2
    isplitl [Ha2]; · iexact Ha2
    iexact Ho
  iintro ⟨Hz2, Hr, Ho⟩
  ihave Hr := (Entails.of_eq (show cellPay m ρ c 0 (.inr (oRsr r)) = _ from owns_rr (F := F) c r fullShare (rsVal m ρ (rDev r c) r))) $$ Hr
  icases Hr with ⟨%f, %hf, Hr⟩
  iapply (wp_load 𝒱₀ (c : Thread nD τ) none Set.univ (m := rrM) (S := (rrR r).set) (set_whole_on _ _).le) $$ Hr
  iintro Hr
  rw [wp_ret, hf]; imodintro
  iapply Hk
  isplitl [Hz1 Hz2]
  · isplitl [Hz1]; · iexact Hz1
    iexact Hz2
  isplitl [Hs]; · iexact Hs
  isplitl [Hr]
  · iapply (someOf_intro (F := F) c (rrV r) (rsVal m ρ (rDev r c) r))
    rw [owns_rr]; iexists f; isplitr
    · ipureintro; exact hf
    · iexact Hr
  iexact Ho

/-- Starting the copies of a layer's two weights. -/
theorem run_startW (k : Fin 3) (s : Fin 2) (hs : s = wSlot k) (Q : PUnit → sProp 𝕄) :
    iprop(ctx (F := F) m ρ K ∗ (wTok (F := F) c k 0 ∗ wTok (F := F) c k 1) ∗ (someOf (F := F) c (wiV s) ∗ someOf (F := F) c (woV s))
        ∗ (inPts m c k ∗ outPts m c k) ∗ ((wWait (F := F) c k 0 ∗ wWait (F := F) c k 1) -∗ Q ⟨⟩))
      ⊢ run c (startW k s) Q := by
  subst hs
  unfold startW wTok wWait someOf owns inPts outPts
  simp only [Prog.lift, Prog.bind_op, Prog.bind_ret]
  iintro ⟨#HC, ⟨⟨Ht0, Ha0⟩, ⟨Ht1, Ha1⟩⟩, ⟨⟨%X0, %f0, %hf0, Hd0⟩, ⟨%X1, %f1, %hf1, Hd1⟩⟩, ⟨Hs0, Hs1⟩, Hk⟩
  ihave #HI0 := (ctx_inv m ρ K (c, .inr (oW k 0))) $$ HC
  ihave #HI1 := (ctx_inv m ρ K (c, .inr (oW k 1))) $$ HC
  ihave #HR0 := (ctx_reached m ρ K (c, .inr (oW k 0))) $$ HC
  ihave #HR1 := (ctx_reached m ρ K (c, .inr (oW k 1))) $$ HC
  iapply (Rounds.wp_copy_pointsTo 𝒱₀ ER (sched m ρ) (c : Thread nD τ) none (κ := K (c, .inr (oW k 0))) (r := 0) (d := 0)
      (src := hinM k) (dst := wiV (wSlot k)) (fd := f0) (q := fullShare) (fs := m ((hinM k).view.loc (c : Thread nD τ)))
      (duty_own m ρ c (oW k 0)) () 65536 (credit_wi _) (amount_k m ρ c (.inr (oW k 0)) 0)
      (to_pay (payload_k m ρ c (.inr (oW k 0)) 0) (by
        show _ ⊢ wPay m c k 0
        unfold wPay; rw [if_pos rfl]; exact sep_mono_left (owns_write _ _ _ _)))) $$ [Hs0 Hd0 Ht0]
  · isplitr; · iexact HI0
    isplitl [Hs0]; · iexact Hs0
    isplitl [Hd0]; · iexact Hd0
    isplitl [Ht0]; · iexact Ht0
    iexact HR0
  iintro Hc0
  iapply (Rounds.wp_copy_pointsTo 𝒱₀ ER (sched m ρ) (c : Thread nD τ) none (κ := K (c, .inr (oW k 1))) (r := 0) (d := 0)
      (src := houtM k) (dst := woV (wSlot k)) (fd := f1) (q := fullShare) (fs := m ((houtM k).view.loc (c : Thread nD τ)))
      (duty_own m ρ c (oW k 1)) () 65536 (credit_wo _) (amount_k m ρ c (.inr (oW k 1)) 0)
      (to_pay (payload_k m ρ c (.inr (oW k 1)) 0) (by
        show _ ⊢ wPay m c k 1
        unfold wPay; rw [if_neg (by decide)]; exact sep_mono_left (owns_write _ _ _ _)))) $$ [Hs1 Hd1 Ht1]
  · isplitr; · iexact HI1
    isplitl [Hs1]; · iexact Hs1
    isplitl [Hd1]; · iexact Hd1
    isplitl [Ht1]; · iexact Ht1
    iexact HR1
  iintro Hc1
  iapply run_ret
  iapply Hk
  isplitl [Hc0 Ha0]
  · isplitl [Hc0]; · iexact Hc0
    iexact Ha0
  · isplitl [Hc1]; · iexact Hc1
    iexact Ha1

/-- A layer's weights in their slot. -/
def wHeld (k : Fin 3) : sProp 𝕄 :=
  iprop(owns (c : Thread nD τ) (wiV (wSlot k)) fullShare (wIn m k c) ∗ owns (c : Thread nD τ) (woV (wSlot k)) fullShare (wOut m k c))
/-- The weights' counters and arrays, after their copies. -/
def wDone (k : Fin 3) : sProp 𝕄 := iprop((semVal (ocell c (oW k 0)) 0 ∗ semVal (ocell c (oW k 1)) 0) ∗ inPts m c k ∗ outPts m c k)

/-- Awaiting the copies of a layer's two weights. -/
theorem run_waitW (k : Fin 3) (s : Fin 2) (hl : ∀ p ∈ l, 0 < clLv (payCl p)) (Q : PUnit → sProp 𝕄) :
    iprop(ctx (F := F) m ρ K ∗ (wWait (F := F) c k 0 ∗ wWait (F := F) c k 1) ∗ ow (F := F) c l
        ∗ ((wDone m c k ∗ wHeld m c k ∗ ow (F := F) c l) -∗ Q ⟨⟩))
      ⊢ run c (waitW k s) Q := by
  unfold waitW wWait wDone wHeld
  simp only [Prog.lift, Prog.bind_op, Prog.bind_ret]
  iintro ⟨#HC, ⟨⟨Hc0, Ha0⟩, ⟨Hc1, Ha1⟩⟩, Ho, Hk⟩
  iapply (op_wait m ρ K c l (oW k 0) hl (wpE_waitDma2_eq 𝒱₀ (c : Thread nD τ) none Set.univ) (credit_wi s)) $$ [Hc0 Ha0 Ho]
  · isplitr; · iexact HC
    isplitl [Hc0]; · iexact Hc0
    isplitl [Ha0]; · iexact Ha0
    iexact Ho
  iintro ⟨Hz0, Hp0, Ho⟩
  iapply (op_wait m ρ K c l (oW k 1) hl (wpE_waitDma2_eq 𝒱₀ (c : Thread nD τ) none Set.univ) (credit_wo s)) $$ [Hc1 Ha1 Ho]
  · isplitr; · iexact HC
    isplitl [Hc1]; · iexact Hc1
    isplitl [Ha1]; · iexact Ha1
    iexact Ho
  iintro ⟨Hz1, Hp1, Ho⟩
  ihave Hp0 := (Entails.of_eq (pay_w0 m ρ c k)) $$ Hp0
  ihave Hp1 := (Entails.of_eq (pay_w1 m ρ c k)) $$ Hp1
  icases Hp0 with ⟨Hw0, Hs0⟩
  icases Hp1 with ⟨Hw1, Hs1⟩
  iapply run_ret
  iapply Hk
  isplitl [Hz0 Hz1 Hs0 Hs1]
  · isplitl [Hz0 Hz1]
    · isplitl [Hz0]; · iexact Hz0
      iexact Hz1
    isplitl [Hs0]; · iexact Hs0
    iexact Hs1
  isplitl [Hw0 Hw1]
  · isplitl [Hw0]; · iexact Hw0
    iexact Hw1
  iexact Ho

end Comm

end Cert.MlpProof

end
-- ==== Proof.Parts.lean ====
/-
# The parts of the body

What each part of `Blocks` does: a slot's life goes from free (`S0`) through sent to the group (`S1`) and sent to the other group (`S2`)
to done (`S3`).
-/
module

public import proofs.«01_k».proof.Proof.Steps
public import Idealize.ShloMosaic.Lib.MemrefSat

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem run_bind (c : Dev nD) {α β : Type} (p : PG F α) (k : α → PG F β) (Q : β → sProp 𝕄) :
    run c (p >>= k) Q = run c p (fun a => run c (k a) Q) := wp_bind _ _ _ p k Q

section Parts
variable (m : (ℓ : Loc nD τ sig) → Buf (Elt F) ℓ) (ρ : Dev nD → PrngReg) (K : Dev nD × Cl → ℕ) (c : Dev nD) (l : List Pay)

/-- Send slot `k` of `lb` held at a share and contents. -/
abbrev sndAt (lb : Fin 8) (k : Fin 2) (q : PosShare TreeShare) (X : FVec F S16x512 .bf16) : sProp 𝕄 :=
  owns (Val := Elt F) (c : Thread nD τ) (sndV lb k) q X
/-- Receive slot `j` of `lb` held at contents. -/
abbrev rcvAt (lb : Fin 8) (j : Fin 4) (X : FVec F S16x512 .bf16) : sProp 𝕄 :=
  owns (Val := Elt F) (c : Thread nD τ) (rcvV lb j) fullShare X

/-- The four receive slots, on the other devices, that this device's slot `lb` is sent to. -/
def dst4 (lb : Fin 8) : sProp 𝕄 :=
  iprop(dstX (F := F) c (lb, 0) ∗ dstX (F := F) c (lb, 1) ∗ dstX (F := F) c (lb, 2) ∗ dstX (F := F) c (lb, 3))

def S0 (lb : Fin 8) : sProp 𝕄 :=
  iprop((someOf (F := F) c (sndV lb 0) ∗ someOf (F := F) c (sndV lb 1)) ∗ xTok (F := F) c lb 0 ∗ xTok (F := F) c lb 1 ∗ xTok (F := F) c lb 2 ∗ xTok (F := F) c lb 3)
def S1 (lb : Fin 8) : sProp 𝕄 :=
  iprop(someOf (F := F) c (sndV lb 1) ∗ (xWait (F := F) c lb 0 ∗ xWait (F := F) c lb 1 ∗ xWait (F := F) c lb 2)
    ∗ xTok (F := F) c lb 3 ∗ dstX (F := F) c (lb, 3))
def S2 (lb : Fin 8) : sProp 𝕄 :=
  iprop(someOf (F := F) c (sndV lb 0) ∗ (xDone (F := F) c lb 0 ∗ xDone (F := F) c lb 1 ∗ xDone (F := F) c lb 2)
    ∗ (someOf (F := F) c (rcvV lb 0) ∗ someOf (F := F) c (rcvV lb 1) ∗ someOf (F := F) c (rcvV lb 2)) ∗ xWait (F := F) c lb 3)
def S3 (lb : Fin 8) : sProp 𝕄 :=
  iprop((someOf (F := F) c (sndV lb 0) ∗ someOf (F := F) c (sndV lb 1))
    ∗ (xDone (F := F) c lb 0 ∗ xDone (F := F) c lb 1 ∗ xDone (F := F) c lb 2 ∗ xDone (F := F) c lb 3)
    ∗ (someOf (F := F) c (rcvV lb 0) ∗ someOf (F := F) c (rcvV lb 1) ∗ someOf (F := F) c (rcvV lb 2) ∗ someOf (F := F) c (rcvV lb 3)))

/-- The first send slot split among the three transfers that read it, and put together again. -/
theorem sndAt_thirds (lb : Fin 8) (X : FVec F S16x512 .bf16) :
    sndAt (F := F) c lb 0 fullShare X ⊢ iprop(sndAt (F := F) c lb 0 (xShare 0) X ∗ sndAt (F := F) c lb 0 (xShare 1) X ∗ sndAt (F := F) c lb 0 (xShare 2) X) := by
  iintro H
  ihave H := (owns_halves (c : Thread nD τ) (sndV lb 0) fullShare X).1 $$ H
  icases H with ⟨Hl, Hr⟩
  ihave Hr := (owns_halves (c : Thread nD τ) (sndV lb 0) fullShare.right X).1 $$ Hr
  isplitl [Hl]; · iexact Hl
  iexact Hr
theorem sndAt_thirds_join (lb : Fin 8) (X : FVec F S16x512 .bf16) :
    iprop(sndAt (F := F) c lb 0 (xShare 0) X ∗ sndAt (F := F) c lb 0 (xShare 1) X ∗ sndAt (F := F) c lb 0 (xShare 2) X) ⊢ sndAt (F := F) c lb 0 fullShare X := by
  show iprop(sndAt (F := F) c lb 0 fullShare.left X ∗ sndAt (F := F) c lb 0 fullShare.right.left X ∗ sndAt (F := F) c lb 0 fullShare.right.right X)
    ⊢ sndAt (F := F) c lb 0 fullShare X
  iintro ⟨Hl, Hr⟩
  ihave Hr := (owns_halves (c : Thread nD τ) (sndV lb 0) fullShare.right X).2 $$ Hr
  iapply (owns_halves (c : Thread nD τ) (sndV lb 0) fullShare X).2
  isplitl [Hl]; · iexact Hl
  iexact Hr

theorem sVal_0 (lb : Fin 8) (c' : Dev nD) : sVal m ρ lb 0 c' = narrow (aVal m ρ lb c') := if_pos rfl
theorem sVal_1 (lb : Fin 8) (c' : Dev nD) : sVal m ρ lb 1 c' = narrow (groupSum lb (aVal m ρ lb) c') := if_neg (by decide)

/-- The layer's block stored and sent to the group, `mid` run in between. -/
theorem run_emit (lb : Fin 8) (s : Fin 2) (k : Fin 3) (hs : s = wSlot k) (mid : PG F PUnit) (x : FVec F S16x512 .f32) (R R' : sProp 𝕄) (l₀ : List Pay)
    (hx : dense x (wIn m k c) (wOut m k c) = aVal m ρ lb c)
    (hmid : ∀ Q : PUnit → sProp 𝕄, iprop(ctx (F := F) m ρ K ∗ R ∗ ow (F := F) c l₀
        ∗ ((dst4 (F := F) c lb ∗ R' ∗ ow (F := F) c (payEmit lb l)) -∗ Q ⟨⟩)) ⊢ run c mid Q)
    (Q : FVec F S16x512 .f32 → sProp 𝕄) :
    iprop(ctx (F := F) m ρ K ∗ wHeld m c k ∗ S0 (F := F) c lb ∗ R ∗ ow (F := F) c l₀
        ∗ ((wHeld m c k ∗ S1 (F := F) c lb ∗ R' ∗ ow (F := F) c l) -∗ Q (aVal m ρ lb c)))
      ⊢ run c (emit c lb s mid x) Q := by
  subst hs
  unfold emit wHeld S0 S1
  rw [← hx]
  iintro ⟨#HC, ⟨Hw1, Hw2⟩, ⟨⟨Hs0, Hs1⟩, Ht0, Ht1, Ht2, Ht3⟩, HR, Ho, Hk⟩
  rw [run_bind]
  iapply (run_loadWi c (wSlot k) (wIn m k c))
  isplitl [Hw1]; · iexact Hw1
  iintro Hw1
  rw [run_bind]
  iapply (run_loadWo c (wSlot k) (wOut m k c))
  isplitl [Hw2]; · iexact Hw2
  iintro Hw2
  rw [run_bind]
  iapply (hmid _)
  isplitr; · iexact HC
  isplitl [HR]; · iexact HR
  isplitl [Ho]; · iexact Ho
  unfold dst4 payEmit
  iintro ⟨⟨Hd0, Hd1, Hd2, Hd3⟩, HR, Ho⟩
  rw [run_bind]
  iapply (run_storeS c lb 0 _)
  isplitl [Hs0]; · iexact Hs0
  iintro Hs
  rw [hx]
  ihave Hs := (sndAt_thirds c lb (narrow (aVal m ρ lb c))) $$ Hs
  icases Hs with ⟨Hq0, Hq1, Hq2⟩
  rw [run_bind]
  iapply (run_send m ρ K c _ lb 0)
  isplitr; · iexact HC
  isplitl [Ht0]; · iexact Ht0
  isplitl [Hd0]; · iexact Hd0
  isplitl [Hq0]; · rw [show srcK 0 = 0 from rfl, sVal_0]; iexact Hq0
  isplitl [Ho]; · iexact Ho
  iintro ⟨Hx0, Ho⟩
  rw [run_bind]
  iapply (run_send m ρ K c _ lb 1)
  isplitr; · iexact HC
  isplitl [Ht1]; · iexact Ht1
  isplitl [Hd1]; · iexact Hd1
  isplitl [Hq1]; · rw [show srcK 1 = 0 from rfl, sVal_0]; iexact Hq1
  isplitl [Ho]; · iexact Ho
  iintro ⟨Hx1, Ho⟩
  rw [run_bind]
  iapply (run_send m ρ K c _ lb 2)
  isplitr; · iexact HC
  isplitl [Ht2]; · iexact Ht2
  isplitl [Hd2]; · iexact Hd2
  isplitl [Hq2]; · rw [show srcK 2 = 0 from rfl, sVal_0]; iexact Hq2
  isplitl [Ho]; · iexact Ho
  iintro ⟨Hx2, Ho⟩
  iapply run_ret
  iapply Hk
  isplitl [Hw1 Hw2]
  · isplitl [Hw1]; · iexact Hw1
    iexact Hw2
  isplitr [HR Ho]
  · isplitl [Hs1]; · iexact Hs1
    isplitl [Hx0 Hx1 Hx2]
    · isplitl [Hx0]; · iexact Hx0
      isplitl [Hx1]; · iexact Hx1
      iexact Hx2
    isplitl [Ht3]; · iexact Ht3
    iexact Hd3
  isplitl [HR]; · iexact HR
  iexact Ho

/-- The group's sum of slot `lb` formed and sent to the other group. -/
theorem run_group (lb : Fin 8) (hl : ∀ p ∈ Pay.x lb 3 :: l, clLv (.inr (oRcv lb 0)) < clLv (payCl p)) (Q : FVec F S16x512 .f32 → sProp 𝕄) :
    iprop(ctx (F := F) m ρ K ∗ S1 (F := F) c lb ∗ ow (F := F) c (.x lb 3 :: l)
        ∗ ((S2 (F := F) c lb ∗ ow (F := F) c l) -∗ Q (groupSum lb (aVal m ρ lb) c)))
      ⊢ run c (group c lb (aVal m ρ lb c)) Q := by
  unfold group S1 S2
  iintro ⟨#HC, ⟨Hs1, ⟨Hx0, Hx1, Hx2⟩, Ht3, Hd3⟩, Ho, Hk⟩
  rw [run_bind]
  iapply (run_waitX m ρ K c _ lb 0 hl)
  isplitr; · iexact HC
  isplitl [Hx0]; · iexact Hx0
  isplitl [Ho]; · iexact Ho
  iintro ⟨Hx0, Hq0, Hr0, Ho⟩
  rw [run_bind]
  iapply (run_waitX m ρ K c _ lb 1 hl)
  isplitr; · iexact HC
  isplitl [Hx1]; · iexact Hx1
  isplitl [Ho]; · iexact Ho
  iintro ⟨Hx1, Hq1, Hr1, Ho⟩
  rw [run_bind]
  iapply (run_waitX m ρ K c _ lb 2 hl)
  isplitr; · iexact HC
  isplitl [Hx2]; · iexact Hx2
  isplitl [Ho]; · iexact Ho
  iintro ⟨Hx2, Hq2, Hr2, Ho⟩
  ihave Hs0 := (sndAt_thirds_join c lb (sVal m ρ lb 0 c)) $$ [Hq0 Hq1 Hq2]
  · isplitl [Hq0]; · iexact Hq0
    isplitl [Hq1]; · iexact Hq1
    iexact Hq2
  rw [run_bind]
  iapply (run_loadR c lb 0 (sVal m ρ lb 0 (xDev lb 0 c)))
  isplitl [Hr0]; · iexact Hr0
  iintro %v0 %h0 Hr0
  rw [run_bind]
  iapply (run_loadR c lb 1 (sVal m ρ lb 0 (xDev lb 1 c)))
  isplitl [Hr1]; · iexact Hr1
  iintro %v1 %h1 Hr1
  rw [run_bind]
  iapply (run_loadR c lb 2 (sVal m ρ lb 0 (xDev lb 2 c)))
  isplitl [Hr2]; · iexact Hr2
  iintro %v2 %h2 Hr2
  have hg : gsum (aVal m ρ lb c) (ofSlot v0) (ofSlot v1) (ofSlot v2) = groupSum lb (aVal m ρ lb) c := by
    rw [h0, h1, h2, sVal_0, sVal_0, sVal_0]; rfl
  rw [run_bind, hg]
  iapply (run_storeS c lb 1 _)
  isplitl [Hs1]; · iexact Hs1
  iintro Hs1
  rw [run_bind]
  iapply (run_send m ρ K c l lb 3)
  isplitr; · iexact HC
  isplitl [Ht3]; · iexact Ht3
  isplitl [Hd3]; · iexact Hd3
  isplitl [Hs1]; · rw [show srcK 3 = 1 from rfl, sVal_1]; iexact Hs1
  isplitl [Ho]; · iexact Ho
  iintro ⟨Hx3, Ho⟩
  iapply run_ret
  iapply Hk
  isplitr [Ho]
  · isplitl [Hs0]; · iapply (someOf_intro c (sndV lb 0)); iexact Hs0
    isplitl [Hx0 Hx1 Hx2]
    · isplitl [Hx0]; · iexact Hx0
      isplitl [Hx1]; · iexact Hx1
      iexact Hx2
    isplitl [Hr0 Hr1 Hr2]
    · isplitl [Hr0]; · iapply (someOf_intro c (rcvV lb 0)); iexact Hr0
      isplitl [Hr1]; · iapply (someOf_intro c (rcvV lb 1)); iexact Hr1
      iapply (someOf_intro c (rcvV lb 2)); iexact Hr2
    iexact Hx3
  iexact Ho

/-- The other group's sum received and added: slot `lb` is done. -/
theorem run_cross (lb : Fin 8) (hl : ∀ p ∈ l, clLv (.inr (oRcv lb 3)) < clLv (payCl p)) (Q : FVec F S16x512 .f32 → sProp 𝕄) :
    iprop(ctx (F := F) m ρ K ∗ S2 (F := F) c lb ∗ ow (F := F) c l ∗ ((S3 (F := F) c lb ∗ ow (F := F) c l) -∗ Q (allSum lb (aVal m ρ lb) c)))
      ⊢ run c (cross lb (groupSum lb (aVal m ρ lb) c)) Q := by
  unfold cross S2 S3
  iintro ⟨#HC, ⟨Hs0, Hx, ⟨Hr0, Hr1, Hr2⟩, Hx3⟩, Ho, Hk⟩
  icases Hx with ⟨Hx0, Hx1, Hx2⟩
  rw [run_bind]
  iapply (run_waitX m ρ K c _ lb 3 hl)
  isplitr; · iexact HC
  isplitl [Hx3]; · iexact Hx3
  isplitl [Ho]; · iexact Ho
  iintro ⟨Hx3, Hs1, Hr3, Ho⟩
  rw [run_bind]
  iapply (run_loadR c lb 3 (sVal m ρ lb 1 (xDev lb 3 c)))
  isplitl [Hr3]; · iexact Hr3
  iintro %v %h Hr3
  have hg : psum (groupSum lb (aVal m ρ lb) c) (ofSlot v) = allSum lb (aVal m ρ lb) c := by rw [h, sVal_1]; rfl
  rw [hg]
  iapply run_ret
  iapply Hk
  isplitr [Ho]
  · isplitl [Hs0 Hs1]
    · isplitl [Hs0]; · iexact Hs0
      iapply (someOf_intro c (sndV lb 1)); iexact Hs1
    isplitl [Hx0 Hx1 Hx2 Hx3]
    · isplitl [Hx0]; · iexact Hx0
      isplitl [Hx1]; · iexact Hx1
      isplitl [Hx2]; · iexact Hx2
      iexact Hx3
    isplitl [Hr0]; · iexact Hr0
    isplitl [Hr1]; · iexact Hr1
    isplitl [Hr2]; · iexact Hr2
    iapply (someOf_intro c (rcvV lb 3)); iexact Hr3
  iexact Ho

/-- The pause of the blocks that have none. -/
theorem run_nomid (lb : Fin 8) (Q : PUnit → sProp 𝕄) :
    iprop(ctx (F := F) m ρ K ∗ dst4 (F := F) c lb ∗ ow (F := F) c (payEmit lb l)
        ∗ ((dst4 (F := F) c lb ∗ emp ∗ ow (F := F) c (payEmit lb l)) -∗ Q ⟨⟩)) ⊢ run c (pure ⟨⟩) Q := by
  iintro ⟨-, Hd, Ho, Hk⟩
  iapply run_ret
  iapply Hk
  isplitl [Hd]; · iexact Hd
  isplitr; · iempintro
  iexact Ho

/-- The staged activations. -/
def xHeld : sProp 𝕄 := iprop(((c : Thread nD τ).loc cc0_stg0_0) ↦{fullShare} xstg m ρ c)

theorem run_loadX (b : Fin 4) (Q : Vec F S16x512 .f32 → sProp 𝕄) :
    iprop(xHeld m ρ c ∗ (xHeld m ρ c -∗ Q (xblk m ρ b c))) ⊢ run c (loadX b) Q := by
  unfold loadX xHeld
  simp only [Prog.lift]
  iintro ⟨H, Hk⟩
  iapply (wp_load 𝒱₀ (c : Thread nD τ) none Set.univ (m := xM) (Finset.subset_univ _)) $$ H
  iintro H
  iapply run_ret
  unfold xblk
  iapply Hk; iexact H

/-- The first layer's block `b`. -/
theorem run_first (b : Fin 4) (mid : PG F PUnit) (R R' : sProp 𝕄) (l₀ : List Pay)
    (hmid : ∀ Q : PUnit → sProp 𝕄, iprop(ctx (F := F) m ρ K ∗ R ∗ ow (F := F) c l₀
        ∗ ((dst4 (F := F) c (lo b) ∗ R' ∗ ow (F := F) c (payEmit (lo b) l)) -∗ Q ⟨⟩)) ⊢ run c mid Q)
    (Q : FVec F S16x512 .f32 → sProp 𝕄) :
    iprop(ctx (F := F) m ρ K ∗ xHeld m ρ c ∗ wHeld m c 0 ∗ S0 (F := F) c (lo b) ∗ R ∗ ow (F := F) c l₀
        ∗ ((xHeld m ρ c ∗ wHeld m c 0 ∗ S1 (F := F) c (lo b) ∗ R' ∗ ow (F := F) c l) -∗ Q (aVal m ρ (lo b) c)))
      ⊢ run c (first c (lo b) b mid) Q := by
  unfold first
  iintro ⟨#HC, Hx, Hw, HS, HR, Ho, Hk⟩
  rw [run_bind]
  iapply (run_loadX m ρ c b)
  isplitl [Hx]; · iexact Hx
  iintro Hx
  iapply (run_emit m ρ K c l (lo b) 0 0 rfl mid (same16 (xblk m ρ b c)) R R' l₀ (by rw [aVal_lo]; rfl) hmid)
  isplitr; · iexact HC
  isplitl [Hw]; · iexact Hw
  isplitl [HS]; · iexact HS
  isplitl [HR]; · iexact HR
  isplitl [Ho]; · iexact Ho
  iintro ⟨Hw, HS, HR, Ho⟩
  iapply Hk
  isplitl [Hx]; · iexact Hx
  isplitl [Hw]; · iexact Hw
  isplitl [HS]; · iexact HS
  isplitl [HR]; · iexact HR
  iexact Ho

/-- The second layer's block `b`. -/
theorem run_second (b : Fin 4) (hl : ∀ p ∈ payEmit (hi b) l, clLv (.inr (oRcv (lo b) 3)) < clLv (payCl p)) (Q : FVec F S16x512 .f32 → sProp 𝕄) :
    iprop(ctx (F := F) m ρ K ∗ wHeld m c 1 ∗ S2 (F := F) c (lo b) ∗ S0 (F := F) c (hi b) ∗ dst4 (F := F) c (hi b) ∗ ow (F := F) c (payEmit (hi b) l)
        ∗ ((wHeld m c 1 ∗ S3 (F := F) c (lo b) ∗ S1 (F := F) c (hi b) ∗ ow (F := F) c l) -∗ Q (aVal m ρ (hi b) c)))
      ⊢ run c (second c (lo b) (hi b) (groupSum (lo b) (aVal m ρ (lo b)) c)) Q := by
  unfold second
  iintro ⟨#HC, Hw, H2, H0, Hd, Ho, Hk⟩
  rw [run_bind]
  iapply (run_cross m ρ K c _ (lo b) hl)
  isplitr; · iexact HC
  isplitl [H2]; · iexact H2
  isplitl [Ho]; · iexact Ho
  iintro ⟨H3, Ho⟩
  iapply (run_emit m ρ K c l (hi b) 1 1 rfl (pure ⟨⟩) _ (dst4 c (hi b)) iprop(emp) _ (by rw [aVal_hi, aVal_lo]; rfl) (run_nomid m ρ K c l (hi b)))
  isplitr; · iexact HC
  isplitl [Hw]; · iexact Hw
  isplitl [H0]; · iexact H0
  isplitl [Hd]; · iexact Hd
  isplitl [Ho]; · iexact Ho
  iintro ⟨Hw, H1, -, Ho⟩
  iapply Hk
  isplitl [Hw]; · iexact Hw
  isplitl [H3]; · iexact H3
  isplitl [H1]; · iexact H1
  iexact Ho

end Parts

end Cert.MlpProof

end
-- ==== Proof.Rows.lean ====
/-
# The rows to scatter

The third layer writes its blocks into one buffer of 64 rows; the scatter sends seven blocks of eight of them away, keeps the
eighth, and adds what the other devices send.
-/
module

public import proofs.«01_k».proof.Proof.Parts
public import Idealize.ShloMosaic.Lib.Ring.FamCut
public import Idealize.ShloMosaic.Lib.Pipeline.BigSepL
public import Idealize.ShloMosaic.Lib.Pipeline.ValueKit.Geometry

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Rows
variable (m : (ℓ : Loc nD τ sig) → Buf (Elt F) ℓ) (ρ : Dev nD → PrngReg) (K : Dev nD × Cl → ℕ) (c : Dev nD) (l : List Pay)

/-- The buffer of rows with its first `n` blocks written. -/
def rsHeld (n : ℕ) : sProp 𝕄 :=
  iprop(∃ f : Buf (Elt F) ((c : Thread nD τ).loc cc0_scratch2), ⌜∀ i, (i 0).val / 16 < n → f i = rsBuf m ρ c i⌝
    ∗ (((c : Thread nD τ).loc cc0_scratch2) ↦{fullShare} f))
def rsSome : sProp 𝕄 := iprop(∃ f : Buf (Elt F) ((c : Thread nD τ).loc cc0_scratch2), (((c : Thread nD τ).loc cc0_scratch2) ↦{fullShare} f))

omit [FloatOps F] in
theorem mem_blkR (b : Fin 4) (i : S64x512.Idx) : i ∈ (blkR b).set ↔ (i 0).val / 16 = b.val := by
  rw [Rect.mem_set_unit]
  constructor
  · intro h
    have h0 := h 0
    change 16 * b.val ≤ (i 0).val ∧ (i 0).val < 16 * b.val + 16 at h0
    omega
  · intro h a
    match a with
    | ⟨0, _⟩ => show 16 * b.val ≤ (i 0).val ∧ (i 0).val < 16 * b.val + 16; omega
    | ⟨1, _⟩ => show 0 ≤ (i 1).val ∧ (i 1).val < 0 + 512; exact ⟨Nat.zero_le _, by have := (i 1).isLt; change (i 1).val < 512 at this; omega⟩

/-- The row block just written is the third layer's. -/
theorem written_blk (b : Fin 4) (f : Buf (Elt F) ((c : Thread nD τ).loc cc0_scratch2)) (h : ∀ i, (i 0).val / 16 < b.val → f i = rsBuf m ρ c i) :
    ∀ i, (i 0).val / 16 < b.val + 1 →
      (rsM.access (blkR b)).write (Elt F) f (same16b (narrow (partial2 m ρ b c))) Finset.univ i = rsBuf m ρ c i := by
  intro i hi
  by_cases hb : (i 0).val / 16 = b.val
  · obtain ⟨j, -, hj⟩ := Finset.mem_map.mp (show i ∈ (rsM.access (blkR b)).set by
      rw [show (rsM.access (blkR b)).set = (blkR b).set from View.set_slice_whole _ _]; exact (mem_blkR b i).mpr hb)
    rw [← hj, View.write_emb_of_mem (h := Finset.mem_univ j), hj]
    show same16b (narrow (partial2 m ρ b c)) j = rsBuf m ρ c i
    unfold rsBuf
    have h0 : (i 0).val = 16 * b.val + (j 0).val := by rw [← hj]; exact ValueKit.rect_emb_unit_val (s := S64x512) ![16 * b.val, 0] S16x512.size (blk_inb b) j 0
    have h1 : (i 1).val = 0 + (j 1).val := by rw [← hj]; exact ValueKit.rect_emb_unit_val (s := S64x512) ![16 * b.val, 0] S16x512.size (blk_inb b) j 1
    have hj0 : (j 0).val < 16 := (j 0).isLt
    congr 1
    · congr 2; apply Fin.ext; exact hb.symm
    · funext a
      match a with
      | ⟨0, _⟩ => apply Fin.ext; show (j 0).val = (i 0).val % 16; omega
      | ⟨1, _⟩ => apply Fin.ext; show (j 1).val = (i 1).val; omega
  · rw [View.write_of_not_mem]
    · exact h i (by omega)
    · intro hm
      exact hb ((mem_blkR b i).mp (by
        rw [show (blkR b).set = (rsM.access (blkR b)).set from (View.set_slice_whole _ _).symm]; exact hm))

/-- The third layer's block `b`. -/
theorem run_third (b : Fin 4) (hl : ∀ p ∈ l, clLv (.inr (oRcv (hi b) 3)) < clLv (payCl p)) (Q : PUnit → sProp 𝕄) :
    iprop(ctx (F := F) m ρ K ∗ wHeld m c 2 ∗ S2 (F := F) c (hi b) ∗ rsHeld m ρ c b.val ∗ ow (F := F) c l
        ∗ ((wHeld m c 2 ∗ S3 (F := F) c (hi b) ∗ rsHeld m ρ c (b.val + 1) ∗ ow (F := F) c l) -∗ Q ⟨⟩))
      ⊢ run c (third (hi b) b (groupSum (hi b) (aVal m ρ (hi b)) c)) Q := by
  unfold third wHeld rsHeld
  iintro ⟨#HC, ⟨Hw1, Hw2⟩, H2, ⟨%f, %hf, Hf⟩, Ho, Hk⟩
  rw [run_bind]
  iapply (run_cross m ρ K c _ (hi b) hl)
  isplitr; · iexact HC
  isplitl [H2]; · iexact H2
  isplitl [Ho]; · iexact Ho
  iintro ⟨H3, Ho⟩
  rw [run_bind]
  iapply (run_loadWi c (wSlot 2) (wIn m 2 c))
  isplitl [Hw1]; · iexact Hw1
  iintro Hw1
  rw [run_bind]
  iapply (run_loadWo c (wSlot 2) (wOut m 2 c))
  isplitl [Hw2]; · iexact Hw2
  iintro Hw2
  simp only [Prog.lift, Prog.bind_op, Prog.bind_ret]
  iapply (wp_load 𝒱₀ (c : Thread nD τ) none Set.univ (m := rsM) (Finset.subset_univ _)) $$ Hf
  iintro Hf
  iapply (wp_store 𝒱₀ (c : Thread nD τ) none Set.univ (m := rsM) (r := blkR b) (Mk := Finset.univ) (Finset.subset_univ _)) $$ Hf
  iintro Hf
  iapply run_ret
  iapply Hk
  isplitl [Hw1 Hw2]
  · isplitl [Hw1]; · iexact Hw1
    iexact Hw2
  isplitl [H3]; · iexact H3
  isplitr [Ho]
  · iexists ((rsM.access (blkR b)).write (Elt F) f (same16b (narrow (dense (allSum (hi b) (aVal m ρ (hi b)) c) (wIn m 2 c) (wOut m 2 c)))) Finset.univ)
    isplitr [Hf]
    · ipureintro
      have e : dense (allSum (hi b) (aVal m ρ (hi b)) c) (wIn m 2 c) (wOut m 2 c) = partial2 m ρ b c := by rw [aVal_hi]; rfl
      rw [e]
      exact written_blk m ρ c b f hf
    · iexact Hf
  iexact Ho

/-! ## The scatter -/

theorem rs_sep : ∀ (c : Dev nD) (r r' : Fin 7), r ≠ r' → k0_off1 c (BitVec.ofNat 32 (1 + r.val)) 0 + 8 ≤ k0_off1 c (BitVec.ofNat 32 (1 + r'.val)) 0
    ∨ k0_off1 c (BitVec.ofNat 32 (1 + r'.val)) 0 + 8 ≤ k0_off1 c (BitVec.ofNat 32 (1 + r.val)) 0 := by decide +kernel
theorem own_sep : ∀ (c : Dev nD) (r : Fin 7), k0_off1 c (BitVec.ofNat 32 (1 + r.val)) 0 + 8 ≤ k0_off2 c 0
    ∨ k0_off2 c 0 + 8 ≤ k0_off1 c (BitVec.ofNat 32 (1 + r.val)) 0 := by decide +kernel

theorem rsR_disjoint (r r' : Fin 7) (h : r ≠ r') : Disjoint (rsR c r).set (rsR c r').set :=
  Rect.disjoint_of_axis _ _ 0 fun j₁ h₁ j₂ h₂ => by
    change j₁ < 8 at h₁; change j₂ < 8 at h₂
    show k0_off1 c (BitVec.ofNat 32 (1 + r.val)) 0 + 1 * j₁ ≠ k0_off1 c (BitVec.ofNat 32 (1 + r'.val)) 0 + 1 * j₂
    have := rs_sep c r r' h
    omega
theorem ownR_disjoint (r : Fin 7) : Disjoint (rsR c r).set (ownR c).set :=
  Rect.disjoint_of_axis _ _ 0 fun j₁ h₁ j₂ h₂ => by
    change j₁ < 8 at h₁; change j₂ < 8 at h₂
    show k0_off1 c (BitVec.ofNat 32 (1 + r.val)) 0 + 1 * j₁ ≠ k0_off2 c 0 + 1 * j₂
    have := own_sep c r
    omega

/-- The rows sent, of the buffer on device `c`. -/
abbrev rsI (r : Fin 7) : Finset (Idx ((c : Thread nD τ).loc cc0_scratch2)) := (rsR c r).set
theorem ownR_rest : (ownR c).set ⊆ Ring.restOf (rsI c) := fun i hi => by
  rw [Ring.restOf, Finset.mem_sdiff]
  refine ⟨Finset.mem_univ _, fun h => ?_⟩
  obtain ⟨r, -, hr⟩ := Finset.mem_biUnion.mp h
  exact Finset.disjoint_left.mp (ownR_disjoint c r) hr hi

omit [FloatOps F] in
theorem owns_rs (r : Fin 7) (q : PosShare TreeShare) (X : FVec F S8x512 .bf16) :
    (owns (Ix := Unit) (Name := ℕ) (U := UU) (Lvl := ℕ) (c : Thread nD τ) (rsV c r) q X : sProp 𝕄)
      = iprop(∃ f : Buf (Elt F) ((c : Thread nD τ).loc cc0_scratch2), ⌜rsM.view.readAt (Elt F) (rsR c r).toLoadRect f = X⌝
          ∗ ((c : Thread nD τ).loc cc0_scratch2 ↦[rsI c r]{q} f)) := by
  have h : (rsV c r).view.set = (rsR c r).set := View.set_slice_whole _ _
  unfold owns; rw [h]; rfl

/-- A transfer of the scatter: before it starts, and after both waits. -/
def rPre (r : Fin 7) : sProp 𝕄 := iprop(rTok (F := F) c r ∗ dstR (F := F) c r ∗ owns (c : Thread nD τ) (rsV c r) fullShare (rsVal m ρ c r))
def rPost (r : Fin 7) : sProp 𝕄 :=
  iprop((rDone (F := F) c r ∗ someOf (F := F) c (rrV r)) ∗ owns (c : Thread nD τ) (rsV c r) fullShare (rsVal m ρ c r))

theorem rs_cut (r : Fin 7) : ((c : Thread nD τ).loc cc0_scratch2 ↦[rsI c r]{fullShare} rsBuf m ρ c)
    ⊢ (owns (Ix := Unit) (Name := ℕ) (U := UU) (Lvl := ℕ) (c : Thread nD τ) (rsV c r) fullShare (rsVal m ρ c r) : sProp 𝕄) := by
  rw [owns_rs]; iintro H; iexists _; isplitr [H]
  · ipureintro; rfl
  · iexact H
theorem rPre_of (r : Fin 7) : iprop((rTok (F := F) c r ∗ dstR (F := F) c r) ∗ owns (c : Thread nD τ) (rsV c r) fullShare (rsVal m ρ c r)) ⊢ rPre m ρ c r := by
  unfold rPre
  iintro ⟨⟨H1, H2⟩, H3⟩
  isplitl [H1]; · iexact H1
  isplitl [H2]; · iexact H2
  iexact H3
theorem of_rPost (r : Fin 7) : rPost m ρ c r ⊢ iprop((rDone (F := F) c r ∗ someOf (F := F) c (rrV r))
    ∗ (∃ f : Buf (Elt F) ((c : Thread nD τ).loc cc0_scratch2), ((c : Thread nD τ).loc cc0_scratch2 ↦[rsI c r]{fullShare} f))) := by
  unfold rPost
  rw [owns_rs]
  iintro ⟨H1, ⟨%f, -, H2⟩⟩
  isplitl [H1]; · iexact H1
  iexists f; iexact H2

/-- Transfers started one after the other; awaited one after the other, what they bring added up. -/
def sends (c : Dev nD) (k : PG F PUnit) : List (Fin 7) → PG F PUnit
  | [] => k
  | r :: l => sendRs c r >>= fun _ => sends c k l
def takes (c : Dev nD) (k : FVec F S8x512 .f32 → PG F PUnit) : List (Fin 7) → FVec F S8x512 .f32 → PG F PUnit
  | [], o => k o
  | r :: l, o => takeRs c r o >>= fun o => takes c k l o
def taken (l : List (Fin 7)) (o : FVec F S8x512 .f32) : FVec F S8x512 .f32 := l.foldl (fun o r => osum o (rsVal m ρ (rDev r c) r)) o

theorem run_sends (k : PG F PUnit) (Q : PUnit → sProp 𝕄) (rs : List (Fin 7)) :
    iprop(ctx (F := F) m ρ K ∗ bigSepL rs (rPre m ρ c) ∗ ow (F := F) c (rs.map .rs ++ l)
        ∗ ((bigSepL rs (rWait (F := F) c) ∗ ow (F := F) c l) -∗ run c k Q)) ⊢ run c (sends c k rs) Q := by
  induction rs generalizing Q with
  | nil =>
    iintro ⟨-, -, Ho, Hk⟩
    iapply Hk
    isplitr; · simp only [bigSepL_nil]; iempintro
    iexact Ho
  | cons r rs ih =>
    rw [bigSepL_cons', bigSepL_cons']
    unfold sends
    rw [run_bind]
    iintro ⟨#HC, ⟨Hr, Hrs⟩, Ho, Hk⟩
    unfold rPre
    icases Hr with ⟨Ht, Hd, Hx⟩
    iapply (run_sendRs m ρ K c (rs.map .rs ++ l) r)
    isplitr; · iexact HC
    isplitl [Ht]; · iexact Ht
    isplitl [Hd]; · iexact Hd
    isplitl [Hx]; · iexact Hx
    isplitl [Ho]; · iexact Ho
    iintro ⟨Hw, Ho⟩
    iapply (ih Q)
    isplitr; · iexact HC
    isplitl [Hrs]; · iexact Hrs
    isplitl [Ho]; · iexact Ho
    iintro ⟨Hws, Ho⟩
    iapply Hk
    isplitr [Ho]
    · isplitl [Hw]; · iexact Hw
      iexact Hws
    iexact Ho

theorem run_takes (k : FVec F S8x512 .f32 → PG F PUnit) (Q : PUnit → sProp 𝕄) (rs : List (Fin 7)) (o : FVec F S8x512 .f32) :
    iprop(ctx (F := F) m ρ K ∗ bigSepL rs (rWait (F := F) c) ∗ ow (F := F) c []
        ∗ ((bigSepL rs (rPost m ρ c) ∗ ow (F := F) c []) -∗ run c (k (taken m ρ c rs o)) Q)) ⊢ run c (takes c k rs o) Q := by
  induction rs generalizing o with
  | nil =>
    iintro ⟨-, -, Ho, Hk⟩
    iapply Hk
    isplitr; · simp only [bigSepL_nil]; iempintro
    iexact Ho
  | cons r rs ih =>
    rw [bigSepL_cons', bigSepL_cons']
    unfold takes
    rw [run_bind]
    iintro ⟨#HC, ⟨Hr, Hrs⟩, Ho, Hk⟩
    iapply (run_takeRs m ρ K c r o)
    isplitr; · iexact HC
    isplitl [Hr]; · iexact Hr
    isplitl [Ho]; · iexact Ho
    iintro ⟨Hd, Hx, Hs, Ho⟩
    iapply (ih (osum o (rsVal m ρ (rDev r c) r)))
    isplitr; · iexact HC
    isplitl [Hrs]; · iexact Hrs
    isplitl [Ho]; · iexact Ho
    iintro ⟨Hp, Ho⟩
    iapply Hk
    isplitr [Ho]
    · isplitr [Hp]
      · unfold rPost
        isplitl [Hd Hs]
        · isplitl [Hd]; · iexact Hd
          iexact Hs
        iexact Hx
      iexact Hp
    iexact Ho

/-- The output buffer. -/
def outSome : sProp 𝕄 := iprop(∃ f : Buf (Elt F) ((c : Thread nD τ).loc cc0_stg1_0), (((c : Thread nD τ).loc cc0_stg1_0) ↦{fullShare} f))
def outHeld : sProp 𝕄 := iprop(((c : Thread nD τ).loc cc0_stg1_0) ↦{fullShare} (outVal m ρ c : Buf (Elt F) ((c : Thread nD τ).loc cc0_stg1_0)))

theorem out_written (g : Buf (Elt F) ((c : Thread nD τ).loc cc0_stg1_0)) :
    (((c : Thread nD τ).loc cc0_stg1_0) ↦{fullShare} (oM.access (Rect.unit (s := S8x512) ![0, 0] S8x512.size inb_S8x512_S8x512_0_0)).write (Elt F) g
      (taken m ρ c [3, 2, 0, 6, 4, 1, 5] (wide8 (ownVal m ρ c))) Finset.univ) ⊢ outHeld m ρ c := by
  have hw : (oM.access (Rect.unit (s := S8x512) ![0, 0] S8x512.size inb_S8x512_S8x512_0_0)).write (Elt F) g
      (taken m ρ c [3, 2, 0, 6, 4, 1, 5] (wide8 (ownVal m ρ c))) Finset.univ = outVal m ρ c :=
    Memref.write_access_unit_zero_univ (Elt F) cc0_stg1_0 (by decide) inb_S8x512_S8x512_0_0 g (outVal m ρ c)
  unfold outHeld
  exact Entails.of_eq (congrArg (fun w : Buf (Elt F) ((c : Thread nD τ).loc cc0_stg1_0) => (((c : Thread nD τ).loc cc0_stg1_0 ↦{fullShare} w) : sProp 𝕄)) hw)

/-- The scatter. -/
theorem run_scatter (Q : PUnit → sProp 𝕄) :
    iprop(ctx (F := F) m ρ K ∗ (bigSep Finset.univ fun r => iprop(rTok (F := F) c r ∗ dstR (F := F) c r)) ∗ rsHeld m ρ c 4 ∗ outSome (F := F) c ∗ ow (F := F) c payScatter
        ∗ (((bigSep Finset.univ fun r => iprop(rDone (F := F) c r ∗ someOf (F := F) c (rrV r))) ∗ rsSome (F := F) c ∗ outHeld m ρ c ∗ ow (F := F) c []) -∗ Q ⟨⟩))
      ⊢ run c (scatter c) Q := by
  have hprog : (scatter c : PG F PUnit) = sends c (Prog.lift (.load rsM (ownR c).toLoadRect (View.loadsAt_vmem h_S8x512)) >>= fun own =>
      takes c (fun o => Prog.lift (.load oM (Rect.unit (s := S8x512) ![0, 0] S8x512.size inb_S8x512_S8x512_0_0).toLoadRect (View.loadsAt_vmem h_S8x512)) >>= fun _ =>
        Prog.lift (.store oM (Rect.unit (s := S8x512) ![0, 0] S8x512.size inb_S8x512_S8x512_0_0) o Finset.univ (View.stores_vmem_bits_univ h_S8x512 rfl) (.inl rfl)))
        [3, 2, 0, 6, 4, 1, 5] (wide8 own)) [5, 1, 4, 6, 0, 2, 3] := rfl
  have huniv : ∀ (Φ : Fin 7 → sProp 𝕄), bigSep Finset.univ Φ = bigSepL [5, 1, 4, 6, 0, 2, 3] Φ := fun Φ => bigSep_univ_eq_bigSepL _ (by decide) (by decide) Φ
  have huniv' : ∀ (Φ : Fin 7 → sProp 𝕄), bigSep Finset.univ Φ = bigSepL [3, 2, 0, 6, 4, 1, 5] Φ := fun Φ => bigSep_univ_eq_bigSepL _ (by decide) (by decide) Φ
  rw [hprog]
  unfold rsHeld
  iintro ⟨#HC, Hr, ⟨%f, %hf, Hf⟩, Hout, Ho, Hk⟩
  have e : f = rsBuf m ρ c := funext fun i => hf i (by have h : (i 0).val < 64 := (i 0).isLt; omega)
  subst e
  ihave Hf := (Ring.fam_split (rsI c) (rsR_disjoint c) (rsBuf m ρ c)) $$ Hf
  icases Hf with ⟨Hf, Hrest⟩
  ihave Hf := (show (bigSep Finset.univ fun r => ((c : Thread nD τ).loc cc0_scratch2 ↦[rsI c r]{fullShare} rsBuf m ρ c))
      ⊢ bigSep Finset.univ fun r => owns (Ix := Unit) (Name := ℕ) (U := UU) (Lvl := ℕ) (c : Thread nD τ) (rsV c r) fullShare (rsVal m ρ c r) from bigSep_mono fun r _ => rs_cut m ρ c r) $$ Hf
  ihave Hall := (show iprop((bigSep Finset.univ fun r => iprop(rTok (F := F) c r ∗ dstR (F := F) c r))
      ∗ bigSep Finset.univ fun r => owns (Ix := Unit) (Name := ℕ) (U := UU) (Lvl := ℕ) (c : Thread nD τ) (rsV c r) fullShare (rsVal m ρ c r))
      ⊢ bigSepL [5, 1, 4, 6, 0, 2, 3] (rPre m ρ c) from by
    rw [← bigSep_sep', ← huniv]
    exact bigSep_mono fun r _ => rPre_of m ρ c r) $$ [Hr Hf]
  · isplitl [Hr]; · iexact Hr
    iexact Hf
  iapply (run_sends m ρ K c [] _ Q [5, 1, 4, 6, 0, 2, 3])
  isplitr; · iexact HC
  isplitl [Hall]; · iexact Hall
  isplitl [Ho]; · iexact Ho
  iintro ⟨Hw, Ho⟩
  ihave Hw := (Entails.of_eq ((huniv _).symm.trans (huniv' _))) $$ Hw
  simp only [Prog.lift, Prog.bind_op, Prog.bind_ret]
  iapply (wp_load 𝒱₀ (c : Thread nD τ) none Set.univ (m := rsM) (S := Ring.restOf (rsI c)) ((set_whole_on _ _).le.trans (ownR_rest c))) $$ Hrest
  iintro Hrest
  iapply (run_takes m ρ K c _ Q [3, 2, 0, 6, 4, 1, 5])
  isplitr; · iexact HC
  isplitl [Hw]; · iexact Hw
  isplitl [Ho]; · iexact Ho
  iintro ⟨Hp, Ho⟩
  ihave Hp := (show bigSepL [3, 2, 0, 6, 4, 1, 5] (rPost m ρ c) ⊢ iprop((bigSep Finset.univ fun r => iprop(rDone (F := F) c r ∗ someOf (F := F) c (rrV r)))
      ∗ bigSep Finset.univ fun r => iprop(∃ f : Buf (Elt F) ((c : Thread nD τ).loc cc0_scratch2), ((c : Thread nD τ).loc cc0_scratch2 ↦[rsI c r]{fullShare} f))) from by
    rw [← huniv', ← bigSep_sep']
    exact bigSep_mono fun r _ => of_rPost m ρ c r) $$ Hp
  icases Hp with ⟨Hp, Hf⟩
  ihave Hf := (Ring.fam_join (rsI c) (rsR_disjoint c) (rsBuf m ρ c)) $$ [Hf Hrest]
  · isplitl [Hf]; · iexact Hf
    iexists _; iexact Hrest
  unfold outSome
  icases Hout with ⟨%g, Hg⟩
  iapply (wp_load 𝒱₀ (c : Thread nD τ) none Set.univ (m := oM) (Finset.subset_univ _)) $$ Hg
  iintro Hg
  iapply (wp_store 𝒱₀ (c : Thread nD τ) none Set.univ (m := oM) (r := Rect.unit (s := S8x512) ![0, 0] S8x512.size inb_S8x512_S8x512_0_0) (Mk := Finset.univ) (Finset.subset_univ _)) $$ Hg
  iintro Hg
  iapply run_ret
  iapply Hk
  isplitl [Hp]; · iexact Hp
  isplitl [Hf]; · unfold rsSome; iexact Hf
  isplitl [Hg]
  · iapply (out_written m ρ c g); iexact Hg
  iexact Ho

end Rows

end Cert.MlpProof

end
-- ==== Proof.Body.lean ====
/-
# The body

The parts of the body one after the other: from what a device holds at its start (`bodyPre`) to what it holds at its end (`bodyPost`).
-/
module

public import proofs.«01_k».proof.Proof.Rows
public import Idealize.ShloMosaic.Lib.Pipeline.BigSepL

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Lists
omit [FloatOps F]
variable {M : Type} [URA M]
theorem big2 (Φ : Fin 2 → sProp M) : bigSep Finset.univ Φ = iprop(Φ 0 ∗ Φ 1) := bigSep_univ_eq_bigSepL [0, 1] (by decide) (by decide) Φ
theorem big3 (Φ : Fin 3 → sProp M) : bigSep Finset.univ Φ = iprop(Φ 0 ∗ Φ 1 ∗ Φ 2) := bigSep_univ_eq_bigSepL [0, 1, 2] (by decide) (by decide) Φ
theorem big4 (Φ : Fin 4 → sProp M) : bigSep Finset.univ Φ = iprop(Φ 0 ∗ Φ 1 ∗ Φ 2 ∗ Φ 3) := bigSep_univ_eq_bigSepL [0, 1, 2, 3] (by decide) (by decide) Φ
theorem big8 (Φ : Fin 8 → sProp M) : bigSep Finset.univ Φ
    = iprop(Φ (lo 0) ∗ Φ (lo 1) ∗ Φ (lo 2) ∗ Φ (lo 3) ∗ Φ (hi 0) ∗ Φ (hi 1) ∗ Φ (hi 2) ∗ Φ (hi 3)) :=
  bigSep_univ_eq_bigSepL [lo 0, lo 1, lo 2, lo 3, hi 0, hi 1, hi 2, hi 3] (by decide) (by decide) Φ
/-- A double product in either order. -/
theorem both_orders {A B : Type} [Fintype A] [Fintype B] (Φ : A → B → sProp M) :
    bigSep Finset.univ (fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl
/-- The members of a product sorted by a property. -/
theorem sorted {A B : Type} [Fintype A] [Fintype B] [DecidableEq B] (f : A → B) (Φ : A → sProp M) :
    bigSep Finset.univ (fun b => bigSep Finset.univ fun a => if f a = b then Φ a else iprop(emp)) = bigSep Finset.univ Φ := by
  rw [both_orders]
  refine bigSep_congr fun a _ => ?_
  exact ((bigSep_filter Finset.univ (fun b => f a = b) (fun _ => Φ a)).symm).trans (by
    rw [Finset.filter_eq, if_pos (Finset.mem_univ _), bigSep_singleton])
end Lists

section Body
variable (m : (ℓ : Loc nD τ sig) → Buf (Elt F) ℓ) (ρ : Dev nD → PrngReg) (K : Dev nD × Cl → ℕ) (c : Dev nD) (l : List Pay)

/-- What the seven signals hand over, by the slot it belongs to. -/
theorem bar_deal : (bigSep Finset.univ fun r : Fin 7 => barPay (F := F) c r)
    = iprop((bigSep Finset.univ fun lb => dst4 (F := F) c lb) ∗ bigSep Finset.univ fun r => dstR (F := F) c r) := by
  unfold barPay
  rw [bigSep_sep', sorted (fun x : XI => xIdx x.2), bigSep_univ_prod]
  congr 1
  refine bigSep_congr fun lb _ => ?_
  rw [big4]; rfl

/-! ## The entry -/

/-- Devices signalled one after the other. -/
def signals (c : Dev nD) (k : PG F PUnit) : List (Fin 7) → PG F PUnit
  | [] => k
  | r :: l => signal c r >>= fun _ => signals c k l
theorem run_signals (k : PG F PUnit) (Q : PUnit → sProp 𝕄) (rs : List (Fin 7)) :
    iprop(ctx (F := F) m ρ K ∗ bigSepL rs (sigTok (F := F) c) ∗ ow (F := F) c (rs.map .bar ++ l) ∗ (ow (F := F) c l -∗ run c k Q))
      ⊢ run c (signals c k rs) Q := by
  induction rs with
  | nil =>
    iintro ⟨-, -, Ho, Hk⟩
    iapply Hk; iexact Ho
  | cons r rs ih =>
    rw [bigSepL_cons']
    unfold signals
    rw [run_bind]
    iintro ⟨#HC, ⟨Hr, Hrs⟩, Ho, Hk⟩
    iapply (run_signal m ρ K c (rs.map .bar ++ l) r)
    isplitr; · iexact HC
    isplitl [Hr]; · iexact Hr
    isplitl [Ho]; · iexact Ho
    iintro Ho
    iapply ih
    isplitr; · iexact HC
    isplitl [Hrs]; · iexact Hrs
    isplitl [Ho]; · iexact Ho
    iexact Hk

/-- A layer's weights before their copies; a weight slot. -/
def wPre (k : Fin 3) : sProp 𝕄 := iprop((wTok (F := F) c k 0 ∗ wTok (F := F) c k 1) ∗ (inPts m c k ∗ outPts m c k))
def wFree (s : Fin 2) : sProp 𝕄 := iprop(someOf (F := F) c (wiV s) ∗ someOf (F := F) c (woV s))
/-- A layer's weights under way. -/
def wOn (k : Fin 3) : sProp 𝕄 := iprop(wWait (F := F) c k 0 ∗ wWait (F := F) c k 1)

theorem wHeld_free (k : Fin 3) : wHeld m c k ⊢ wFree (F := F) c (wSlot k) := by
  unfold wHeld wFree
  iintro ⟨H1, H2⟩
  isplitl [H1]; · iapply (someOf_intro c (wiV (wSlot k))); iexact H1
  iapply (someOf_intro c (woV (wSlot k))); iexact H2

theorem run_startW' (k : Fin 3) (s : Fin 2) (hs : s = wSlot k) (Q : PUnit → sProp 𝕄) :
    iprop(ctx (F := F) m ρ K ∗ wPre m c k ∗ wFree (F := F) c s ∗ (wOn (F := F) c k -∗ Q ⟨⟩)) ⊢ run c (startW k s) Q := by
  unfold wPre wFree wOn
  iintro ⟨HC, ⟨Ht, Ha⟩, Hs, Hk⟩
  iapply (run_startW m ρ K c k s hs)
  isplitl [HC]; · iexact HC
  isplitl [Ht]; · iexact Ht
  isplitl [Hs]; · iexact Hs
  isplitl [Ha]; · iexact Ha
  iexact Hk

theorem run_waitW' (k : Fin 3) (s : Fin 2) (hl : ∀ p ∈ l, 0 < clLv (payCl p)) (Q : PUnit → sProp 𝕄) :
    iprop(ctx (F := F) m ρ K ∗ wOn (F := F) c k ∗ ow (F := F) c l ∗ ((wDone m c k ∗ wHeld m c k ∗ ow (F := F) c l) -∗ Q ⟨⟩)) ⊢ run c (waitW k s) Q := by
  unfold wOn
  exact run_waitW m ρ K c l k s hl Q

theorem run_entry (Q : PUnit → sProp 𝕄) :
    iprop(ctx (F := F) m ρ K ∗ (wPre m c 0 ∗ wPre m c 1) ∗ (wFree (F := F) c 0 ∗ wFree (F := F) c 1) ∗ (bigSep Finset.univ fun r => sigTok (F := F) c r)
        ∗ ow (F := F) c payAll ∗ ((wDone m c 0 ∗ wHeld m c 0 ∗ wOn (F := F) c 1 ∗ ow (F := F) c payAfter) -∗ Q ⟨⟩))
      ⊢ run c (entry c) Q := by
  rw [show (entry c : PG F PUnit) = (startW 0 0 >>= fun _ => startW 1 1 >>= fun _ => signals c (waitW 0 0) [0, 1, 2, 3, 4, 5, 6]) from rfl,
    bigSep_univ_eq_bigSepL [0, 1, 2, 3, 4, 5, 6] (by decide) (by decide)]
  iintro ⟨#HC, ⟨Hp0, Hp1⟩, ⟨Hf0, Hf1⟩, Hs, Ho, Hk⟩
  rw [run_bind]
  iapply (run_startW' m ρ K c 0 0 rfl)
  isplitr; · iexact HC
  isplitl [Hp0]; · iexact Hp0
  isplitl [Hf0]; · iexact Hf0
  iintro Hw0
  rw [run_bind]
  iapply (run_startW' m ρ K c 1 1 rfl)
  isplitr; · iexact HC
  isplitl [Hp1]; · iexact Hp1
  isplitl [Hf1]; · iexact Hf1
  iintro Hw1
  iapply (run_signals m ρ K c payAfter (waitW 0 0) Q [0, 1, 2, 3, 4, 5, 6])
  isplitr; · iexact HC
  isplitl [Hs]; · iexact Hs
  isplitl [Ho]; · iexact Ho
  iintro Ho
  iapply (run_waitW' m ρ K c payAfter 0 0 (by decide))
  isplitr; · iexact HC
  isplitl [Hw0]; · iexact Hw0
  isplitl [Ho]; · iexact Ho
  iintro ⟨Hd, Hh, Ho⟩
  iapply Hk
  isplitl [Hd]; · iexact Hd
  isplitl [Hh]; · iexact Hh
  isplitl [Hw1]; · iexact Hw1
  iexact Ho

/-! ## The layers -/

/-- What the barrier brings, but for the first slot. -/
def barGot : sProp 𝕄 :=
  iprop(semVal (bcell c) 0 ∗ (dst4 (F := F) c (lo 1) ∗ dst4 (F := F) c (lo 2) ∗ dst4 (F := F) c (lo 3))
    ∗ (dst4 (F := F) c (hi 0) ∗ dst4 (F := F) c (hi 1) ∗ dst4 (F := F) c (hi 2) ∗ dst4 (F := F) c (hi 3))
    ∗ bigSep Finset.univ fun r => dstR (F := F) c r)

theorem run_barrier (Q : PUnit → sProp 𝕄) :
    iprop(ctx (F := F) m ρ K ∗ barTok (F := F) c ∗ ow (F := F) c payAfter
        ∗ ((dst4 (F := F) c (lo 0) ∗ barGot (F := F) c ∗ ow (F := F) c payAfter) -∗ Q ⟨⟩)) ⊢ run c waitBar Q := by
  iintro ⟨#HC, Hb, Ho, Hk⟩
  iapply (run_waitBar m ρ K c payAfter (by decide))
  isplitr; · iexact HC
  isplitl [Hb]; · iexact Hb
  isplitl [Ho]; · iexact Ho
  rw [bar_deal, big8]
  unfold barGot
  iintro ⟨Hv, ⟨⟨H0, H1, H2, H3, H4⟩, HR⟩, Ho⟩
  iapply Hk
  isplitl [H0]; · iexact H0
  isplitr [Ho]
  · isplitl [Hv]; · iexact Hv
    isplitl [H1 H2 H3]
    · isplitl [H1]; · iexact H1
      isplitl [H2]; · iexact H2
      iexact H3
    isplitl [H4]; · iexact H4
    iexact HR
  iexact Ho

abbrev Blk (F : FTy → Type) : Type := FVec F S16x512 .f32

def firsts (c : Dev nD) (k : Blk F → Blk F → Blk F → Blk F → PG F PUnit) : PG F PUnit :=
  first c (lo 0) 0 waitBar >>= fun a0 => first c (lo 1) 1 (pure ⟨⟩) >>= fun a1 => first c (lo 2) 2 (pure ⟨⟩) >>= fun a2 =>
    first c (lo 3) 3 (pure ⟨⟩) >>= fun a3 => k a0 a1 a2 a3
def groups (c : Dev nD) (s : Fin 4 → Fin 8) (a0 a1 a2 a3 : Blk F) (k : Blk F → Blk F → Blk F → Blk F → PG F PUnit) : PG F PUnit :=
  group c (s 0) a0 >>= fun q0 => group c (s 1) a1 >>= fun q1 => group c (s 2) a2 >>= fun q2 => group c (s 3) a3 >>= fun q3 => k q0 q1 q2 q3
def seconds (c : Dev nD) (q0 q1 q2 q3 : Blk F) (k : Blk F → Blk F → Blk F → Blk F → PG F PUnit) : PG F PUnit :=
  second c (lo 0) (hi 0) q0 >>= fun a0 => second c (lo 1) (hi 1) q1 >>= fun a1 => second c (lo 2) (hi 2) q2 >>= fun a2 =>
    second c (lo 3) (hi 3) q3 >>= fun a3 => k a0 a1 a2 a3
def thirds (q0 q1 q2 q3 : Blk F) (k : PG F PUnit) : PG F PUnit :=
  third (hi 0) 0 q0 >>= fun _ => third (hi 1) 1 q1 >>= fun _ => third (hi 2) 2 q2 >>= fun _ => third (hi 3) 3 q3 >>= fun _ => k

theorem bodyOn_eq : (bodyOn c : PG F PUnit) = (entry c >>= fun _ => firsts c fun a0 a1 a2 a3 => startW 2 0 >>= fun _ =>
    groups c lo a0 a1 a2 a3 fun q0 q1 q2 q3 => waitW 1 1 >>= fun _ => seconds c q0 q1 q2 q3 fun a4 a5 a6 a7 =>
    groups c hi a4 a5 a6 a7 fun q4 q5 q6 q7 => waitW 2 0 >>= fun _ => thirds q4 q5 q6 q7 (scatter c)) := rfl

/-- Four slots' worth. -/
abbrev four (s : Fin 4 → Fin 8) (Φ : Fin 8 → sProp 𝕄) : sProp 𝕄 := iprop(Φ (s 0) ∗ Φ (s 1) ∗ Φ (s 2) ∗ Φ (s 3))

theorem run_nofirst (b : Fin 4) (Q : Blk F → sProp 𝕄) :
    iprop(ctx (F := F) m ρ K ∗ xHeld m ρ c ∗ wHeld m c 0 ∗ S0 (F := F) c (lo b) ∗ dst4 (F := F) c (lo b) ∗ ow (F := F) c (payEmit (lo b) l)
        ∗ ((xHeld m ρ c ∗ wHeld m c 0 ∗ S1 (F := F) c (lo b) ∗ ow (F := F) c l) -∗ Q (aVal m ρ (lo b) c)))
      ⊢ run c (first c (lo b) b (pure ⟨⟩)) Q := by
  iintro ⟨#HC, Hx, Hw, HS, HR, Ho, Hk⟩
  iapply (run_first m ρ K c l b (pure ⟨⟩) _ iprop(emp) _ (run_nomid m ρ K c l (lo b)))
  isplitr; · iexact HC
  isplitl [Hx]; · iexact Hx
  isplitl [Hw]; · iexact Hw
  isplitl [HS]; · iexact HS
  isplitl [HR]; · iexact HR
  isplitl [Ho]; · iexact Ho
  iintro ⟨Hx, Hw, HS, -, Ho⟩
  iapply Hk
  isplitl [Hx]; · iexact Hx
  isplitl [Hw]; · iexact Hw
  isplitl [HS]; · iexact HS
  iexact Ho

theorem run_firsts (hl : payEmit (lo 0) (payEmit (lo 1) (payEmit (lo 2) (payEmit (lo 3) l))) = payAfter)
    (k : Blk F → Blk F → Blk F → Blk F → PG F PUnit) (Q : PUnit → sProp 𝕄) :
    iprop(ctx (F := F) m ρ K ∗ xHeld m ρ c ∗ wHeld m c 0 ∗ four lo (S0 (F := F) c) ∗ barTok (F := F) c ∗ ow (F := F) c payAfter
        ∗ ((xHeld m ρ c ∗ wHeld m c 0 ∗ four lo (S1 (F := F) c)
          ∗ (semVal (bcell c) 0 ∗ four hi (dst4 (F := F) c) ∗ bigSep Finset.univ fun r => dstR (F := F) c r) ∗ ow (F := F) c l)
          -∗ run c (k (aVal m ρ (lo 0) c) (aVal m ρ (lo 1) c) (aVal m ρ (lo 2) c) (aVal m ρ (lo 3) c)) Q))
      ⊢ run c (firsts c k) Q := by
  unfold firsts
  iintro ⟨#HC, Hx, Hw, ⟨H0, H1, H2, H3⟩, Hb, Ho, Hk⟩
  rw [run_bind]
  iapply (run_first m ρ K c (payEmit (lo 1) (payEmit (lo 2) (payEmit (lo 3) l))) 0 waitBar _ (barGot (F := F) c) payAfter
    (by rw [hl]; exact run_barrier m ρ K c))
  isplitr; · iexact HC
  isplitl [Hx]; · iexact Hx
  isplitl [Hw]; · iexact Hw
  isplitl [H0]; · iexact H0
  isplitl [Hb]; · iexact Hb
  isplitl [Ho]; · iexact Ho
  unfold barGot
  iintro ⟨Hx, Hw, H0, ⟨Hv, ⟨Hd1, Hd2, Hd3⟩, Hd4, HR⟩, Ho⟩
  rw [run_bind]
  iapply (run_nofirst m ρ K c _ 1)
  isplitr; · iexact HC
  isplitl [Hx]; · iexact Hx
  isplitl [Hw]; · iexact Hw
  isplitl [H1]; · iexact H1
  isplitl [Hd1]; · iexact Hd1
  isplitl [Ho]; · iexact Ho
  iintro ⟨Hx, Hw, H1, Ho⟩
  rw [run_bind]
  iapply (run_nofirst m ρ K c _ 2)
  isplitr; · iexact HC
  isplitl [Hx]; · iexact Hx
  isplitl [Hw]; · iexact Hw
  isplitl [H2]; · iexact H2
  isplitl [Hd2]; · iexact Hd2
  isplitl [Ho]; · iexact Ho
  iintro ⟨Hx, Hw, H2, Ho⟩
  rw [run_bind]
  iapply (run_nofirst m ρ K c _ 3)
  isplitr; · iexact HC
  isplitl [Hx]; · iexact Hx
  isplitl [Hw]; · iexact Hw
  isplitl [H3]; · iexact H3
  isplitl [Hd3]; · iexact Hd3
  isplitl [Ho]; · iexact Ho
  iintro ⟨Hx, Hw, H3, Ho⟩
  iapply Hk
  isplitl [Hx]; · iexact Hx
  isplitl [Hw]; · iexact Hw
  isplitl [H0 H1 H2 H3]
  · isplitl [H0]; · iexact H0
    isplitl [H1]; · iexact H1
    isplitl [H2]; · iexact H2
    iexact H3
  isplitl [Hv Hd4 HR]
  · isplitl [Hv]; · iexact Hv
    isplitl [Hd4]; · iexact Hd4
    iexact HR
  iexact Ho

theorem run_groups (s : Fin 4 → Fin 8) (hl : ∀ b, ∀ p ∈ payGroups (s 0) (s 1) (s 2) (s 3) l, clLv (.inr (oRcv (s b) 0)) < clLv (payCl p))
    (k : Blk F → Blk F → Blk F → Blk F → PG F PUnit) (Q : PUnit → sProp 𝕄) :
    iprop(ctx (F := F) m ρ K ∗ four s (S1 (F := F) c) ∗ ow (F := F) c (payGroups (s 0) (s 1) (s 2) (s 3) l)
        ∗ ((four s (S2 (F := F) c) ∗ ow (F := F) c l)
          -∗ run c (k (groupSum (s 0) (aVal m ρ (s 0)) c) (groupSum (s 1) (aVal m ρ (s 1)) c) (groupSum (s 2) (aVal m ρ (s 2)) c)
            (groupSum (s 3) (aVal m ρ (s 3)) c)) Q))
      ⊢ run c (groups c s (aVal m ρ (s 0) c) (aVal m ρ (s 1) c) (aVal m ρ (s 2) c) (aVal m ρ (s 3) c) k) Q := by
  unfold groups payGroups
  iintro ⟨#HC, ⟨H0, H1, H2, H3⟩, Ho, Hk⟩
  rw [run_bind]
  iapply (run_group m ρ K c _ (s 0) (hl 0))
  isplitr; · iexact HC
  isplitl [H0]; · iexact H0
  isplitl [Ho]; · iexact Ho
  iintro ⟨H0, Ho⟩
  rw [run_bind]
  iapply (run_group m ρ K c _ (s 1) fun p hp => hl 1 p (List.mem_cons_of_mem _ hp))
  isplitr; · iexact HC
  isplitl [H1]; · iexact H1
  isplitl [Ho]; · iexact Ho
  iintro ⟨H1, Ho⟩
  rw [run_bind]
  iapply (run_group m ρ K c _ (s 2) fun p hp => hl 2 p (List.mem_cons_of_mem _ (List.mem_cons_of_mem _ hp)))
  isplitr; · iexact HC
  isplitl [H2]; · iexact H2
  isplitl [Ho]; · iexact Ho
  iintro ⟨H2, Ho⟩
  rw [run_bind]
  iapply (run_group m ρ K c l (s 3) fun p hp => hl 3 p (List.mem_cons_of_mem _ (List.mem_cons_of_mem _ (List.mem_cons_of_mem _ hp))))
  isplitr; · iexact HC
  isplitl [H3]; · iexact H3
  isplitl [Ho]; · iexact Ho
  iintro ⟨H3, Ho⟩
  iapply Hk
  isplitr [Ho]
  · isplitl [H0]; · iexact H0
    isplitl [H1]; · iexact H1
    isplitl [H2]; · iexact H2
    iexact H3
  iexact Ho

/-- The levels of what is owed from the second layer on. -/
theorem mem_emit {lb : Fin 8} {p : Pay} (h : p ∈ l) : p ∈ payEmit lb l :=
  List.mem_cons_of_mem _ (List.mem_cons_of_mem _ (List.mem_cons_of_mem _ h))

theorem run_seconds (hl : ∀ b, ∀ p ∈ payEmit (hi 0) (payEmit (hi 1) (payEmit (hi 2) (payEmit (hi 3) l))), clLv (.inr (oRcv (lo b) 3)) < clLv (payCl p))
    (k : Blk F → Blk F → Blk F → Blk F → PG F PUnit) (Q : PUnit → sProp 𝕄) :
    iprop(ctx (F := F) m ρ K ∗ wHeld m c 1 ∗ four lo (S2 (F := F) c) ∗ four hi (S0 (F := F) c) ∗ four hi (dst4 (F := F) c)
        ∗ ow (F := F) c (payEmit (hi 0) (payEmit (hi 1) (payEmit (hi 2) (payEmit (hi 3) l))))
        ∗ ((wHeld m c 1 ∗ four lo (S3 (F := F) c) ∗ four hi (S1 (F := F) c) ∗ ow (F := F) c l)
          -∗ run c (k (aVal m ρ (hi 0) c) (aVal m ρ (hi 1) c) (aVal m ρ (hi 2) c) (aVal m ρ (hi 3) c)) Q))
      ⊢ run c (seconds c (groupSum (lo 0) (aVal m ρ (lo 0)) c) (groupSum (lo 1) (aVal m ρ (lo 1)) c) (groupSum (lo 2) (aVal m ρ (lo 2)) c)
            (groupSum (lo 3) (aVal m ρ (lo 3)) c) k) Q := by
  unfold seconds
  iintro ⟨#HC, Hw, ⟨H0, H1, H2, H3⟩, ⟨G0, G1, G2, G3⟩, ⟨D0, D1, D2, D3⟩, Ho, Hk⟩
  rw [run_bind]
  iapply (run_second m ρ K c _ 0 (hl 0))
  isplitr; · iexact HC
  isplitl [Hw]; · iexact Hw
  isplitl [H0]; · iexact H0
  isplitl [G0]; · iexact G0
  isplitl [D0]; · iexact D0
  isplitl [Ho]; · iexact Ho
  iintro ⟨Hw, H0, G0, Ho⟩
  rw [run_bind]
  iapply (run_second m ρ K c _ 1 fun p hp => hl 1 p (mem_emit _ hp))
  isplitr; · iexact HC
  isplitl [Hw]; · iexact Hw
  isplitl [H1]; · iexact H1
  isplitl [G1]; · iexact G1
  isplitl [D1]; · iexact D1
  isplitl [Ho]; · iexact Ho
  iintro ⟨Hw, H1, G1, Ho⟩
  rw [run_bind]
  iapply (run_second m ρ K c _ 2 fun p hp => hl 2 p (mem_emit _ (mem_emit _ hp)))
  isplitr; · iexact HC
  isplitl [Hw]; · iexact Hw
  isplitl [H2]; · iexact H2
  isplitl [G2]; · iexact G2
  isplitl [D2]; · iexact D2
  isplitl [Ho]; · iexact Ho
  iintro ⟨Hw, H2, G2, Ho⟩
  rw [run_bind]
  iapply (run_second m ρ K c l 3 fun p hp => hl 3 p (mem_emit _ (mem_emit _ (mem_emit _ hp))))
  isplitr; · iexact HC
  isplitl [Hw]; · iexact Hw
  isplitl [H3]; · iexact H3
  isplitl [G3]; · iexact G3
  isplitl [D3]; · iexact D3
  isplitl [Ho]; · iexact Ho
  iintro ⟨Hw, H3, G3, Ho⟩
  iapply Hk
  isplitl [Hw]; · iexact Hw
  isplitl [H0 H1 H2 H3]
  · isplitl [H0]; · iexact H0
    isplitl [H1]; · iexact H1
    isplitl [H2]; · iexact H2
    iexact H3
  isplitr [Ho]
  · isplitl [G0]; · iexact G0
    isplitl [G1]; · iexact G1
    isplitl [G2]; · iexact G2
    iexact G3
  iexact Ho

theorem run_thirds (hl : ∀ b, ∀ p ∈ l, clLv (.inr (oRcv (hi b) 3)) < clLv (payCl p)) (k : PG F PUnit) (Q : PUnit → sProp 𝕄) :
    iprop(ctx (F := F) m ρ K ∗ wHeld m c 2 ∗ four hi (S2 (F := F) c) ∗ rsHeld m ρ c 0 ∗ ow (F := F) c l
        ∗ ((wHeld m c 2 ∗ four hi (S3 (F := F) c) ∗ rsHeld m ρ c 4 ∗ ow (F := F) c l) -∗ run c k Q))
      ⊢ run c (thirds (groupSum (hi 0) (aVal m ρ (hi 0)) c) (groupSum (hi 1) (aVal m ρ (hi 1)) c) (groupSum (hi 2) (aVal m ρ (hi 2)) c)
            (groupSum (hi 3) (aVal m ρ (hi 3)) c) k) Q := by
  unfold thirds
  iintro ⟨#HC, Hw, ⟨H0, H1, H2, H3⟩, Hr, Ho, Hk⟩
  rw [run_bind]
  iapply (run_third m ρ K c l 0 (hl 0))
  isplitr; · iexact HC
  isplitl [Hw]; · iexact Hw
  isplitl [H0]; · iexact H0
  isplitl [Hr]; · iexact Hr
  isplitl [Ho]; · iexact Ho
  iintro ⟨Hw, H0, Hr, Ho⟩
  rw [run_bind]
  iapply (run_third m ρ K c l 1 (hl 1))
  isplitr; · iexact HC
  isplitl [Hw]; · iexact Hw
  isplitl [H1]; · iexact H1
  isplitl [Hr]; · iexact Hr
  isplitl [Ho]; · iexact Ho
  iintro ⟨Hw, H1, Hr, Ho⟩
  rw [run_bind]
  iapply (run_third m ρ K c l 2 (hl 2))
  isplitr; · iexact HC
  isplitl [Hw]; · iexact Hw
  isplitl [H2]; · iexact H2
  isplitl [Hr]; · iexact Hr
  isplitl [Ho]; · iexact Ho
  iintro ⟨Hw, H2, Hr, Ho⟩
  rw [run_bind]
  iapply (run_third m ρ K c l 3 (hl 3))
  isplitr; · iexact HC
  isplitl [Hw]; · iexact Hw
  isplitl [H3]; · iexact H3
  isplitl [Hr]; · iexact Hr
  isplitl [Ho]; · iexact Ho
  iintro ⟨Hw, H3, Hr, Ho⟩
  iapply Hk
  isplitl [Hw]; · iexact Hw
  isplitl [H0 H1 H2 H3]
  · isplitl [H0]; · iexact H0
    isplitl [H1]; · iexact H1
    isplitl [H2]; · iexact H2
    iexact H3
  isplitl [Hr]; · iexact Hr
  iexact Ho

/-! ## The whole -/

/-- What a device holds when its body starts, and when it ends. -/
def bodyPre : sProp 𝕄 :=
  iprop((bigSep Finset.univ fun k => wPre m c k) ∗ (bigSep Finset.univ fun s => wFree (F := F) c s) ∗ (bigSep Finset.univ fun r => sigTok (F := F) c r)
    ∗ barTok (F := F) c ∗ (bigSep Finset.univ fun lb => S0 (F := F) c lb) ∗ rsSome (F := F) c ∗ (bigSep Finset.univ fun r => rTok (F := F) c r)
    ∗ xHeld m ρ c ∗ outSome (F := F) c ∗ ow (F := F) c payAll)
def bodyPost : sProp 𝕄 :=
  iprop((bigSep Finset.univ fun k => wDone m c k) ∗ (bigSep Finset.univ fun s => wFree (F := F) c s)
    ∗ semVal (bcell c) 0 ∗ (bigSep Finset.univ fun lb => S3 (F := F) c lb) ∗ rsSome (F := F) c
    ∗ (bigSep Finset.univ fun r => iprop(rDone (F := F) c r ∗ someOf (F := F) c (rrV r)))
    ∗ xHeld m ρ c ∗ outHeld m ρ c ∗ ow (F := F) c [])

theorem rsHeld_zero : rsSome (F := F) c ⊢ rsHeld m ρ c 0 := by
  unfold rsSome rsHeld
  iintro ⟨%f, H⟩
  iexists f; isplitr
  · ipureintro; exact fun i hi => absurd hi (Nat.not_lt_zero _)
  · iexact H

theorem run_body (Q : PUnit → sProp 𝕄) :
    iprop(ctx (F := F) m ρ K ∗ bodyPre m ρ c ∗ (bodyPost m ρ c -∗ Q ⟨⟩)) ⊢ run c (bodyOn c) Q := by
  unfold bodyPre bodyPost
  rw [bodyOn_eq]
  simp only [big2, big3, big8]
  iintro ⟨#HC, ⟨⟨W0, W1, W2⟩, ⟨F0, F1⟩, Hs, Hb, ⟨L0, L1, L2, L3, HH⟩, Hrs, Hr, Hx, Hout, Ho⟩, Hk⟩
  rw [run_bind]
  iapply (run_entry m ρ K c)
  isplitr; · iexact HC
  isplitl [W0 W1]
  · isplitl [W0]; · iexact W0
    iexact W1
  isplitl [F0 F1]
  · isplitl [F0]; · iexact F0
    iexact F1
  isplitl [Hs]; · iexact Hs
  isplitl [Ho]; · iexact Ho
  iintro ⟨E0, W0, W1, Ho⟩
  iapply (run_firsts m ρ K c (payGroups (lo 0) (lo 1) (lo 2) (lo 3) (payLayer (hi 0) (hi 1) (hi 2) (hi 3) payScatter)) rfl)
  isplitr; · iexact HC
  isplitl [Hx]; · iexact Hx
  isplitl [W0]; · iexact W0
  isplitl [L0 L1 L2 L3]
  · isplitl [L0]; · iexact L0
    isplitl [L1]; · iexact L1
    isplitl [L2]; · iexact L2
    iexact L3
  isplitl [Hb]; · iexact Hb
  isplitl [Ho]; · iexact Ho
  iintro ⟨Hx, W0, HL, ⟨Hv, HD, HR⟩, Ho⟩
  ihave F0 := (wHeld_free m c 0) $$ W0
  rw [run_bind]
  iapply (run_startW' m ρ K c 2 0 rfl)
  isplitr; · iexact HC
  isplitl [W2]; · iexact W2
  isplitl [F0]; · iexact F0
  iintro W2
  iapply (run_groups m ρ K c (payLayer (hi 0) (hi 1) (hi 2) (hi 3) payScatter) lo (by decide))
  isplitr; · iexact HC
  isplitl [HL]; · iexact HL
  isplitl [Ho]; · iexact Ho
  iintro ⟨HL, Ho⟩
  rw [run_bind]
  iapply (run_waitW' m ρ K c (payLayer (hi 0) (hi 1) (hi 2) (hi 3) payScatter) 1 1 (by decide))
  isplitr; · iexact HC
  isplitl [W1]; · iexact W1
  isplitl [Ho]; · iexact Ho
  iintro ⟨E1, W1, Ho⟩
  iapply (run_seconds m ρ K c (payGroups (hi 0) (hi 1) (hi 2) (hi 3) payScatter) (by decide))
  isplitr; · iexact HC
  isplitl [W1]; · iexact W1
  isplitl [HL]; · iexact HL
  isplitl [HH]; · iexact HH
  isplitl [HD]; · iexact HD
  isplitl [Ho]; · iexact Ho
  iintro ⟨W1, HL, HH, Ho⟩
  iapply (run_groups m ρ K c payScatter hi (by decide))
  isplitr; · iexact HC
  isplitl [HH]; · iexact HH
  isplitl [Ho]; · iexact Ho
  iintro ⟨HH, Ho⟩
  rw [run_bind]
  iapply (run_waitW' m ρ K c payScatter 2 0 (by decide))
  isplitr; · iexact HC
  isplitl [W2]; · iexact W2
  isplitl [Ho]; · iexact Ho
  iintro ⟨E2, W2, Ho⟩
  ihave Hrs := (rsHeld_zero m ρ c) $$ Hrs
  iapply (run_thirds m ρ K c payScatter (by decide))
  isplitr; · iexact HC
  isplitl [W2]; · iexact W2
  isplitl [HH]; · iexact HH
  isplitl [Hrs]; · iexact Hrs
  isplitl [Ho]; · iexact Ho
  iintro ⟨W2, HH, Hrs, Ho⟩
  iapply (run_scatter m ρ K c)
  isplitr; · iexact HC
  isplitl [Hr HR]
  · rw [bigSep_sep']
    isplitl [Hr]; · iexact Hr
    iexact HR
  isplitl [Hrs]; · iexact Hrs
  isplitl [Hout]; · iexact Hout
  isplitl [Ho]; · iexact Ho
  iintro ⟨Hr, Hrs, Hout, Ho⟩
  ihave F0 := (wHeld_free m c 2) $$ W2
  ihave F1 := (wHeld_free m c 1) $$ W1
  icases HL with ⟨L0, L1, L2, L3⟩
  iapply Hk
  isplitl [E0 E1 E2]
  · isplitl [E0]; · iexact E0
    isplitl [E1]; · iexact E1
    iexact E2
  isplitl [F0 F1]
  · isplitl [F0]; · iexact F0
    iexact F1
  isplitl [Hv]; · iexact Hv
  isplitl [L0 L1 L2 L3 HH]
  · isplitl [L0]; · iexact L0
    isplitl [L1]; · iexact L1
    isplitl [L2]; · iexact L2
    isplitl [L3]; · iexact L3
    iexact HH
  isplitl [Hrs]; · iexact Hrs
  isplitl [Hr]; · iexact Hr
  isplitl [Hx]; · iexact Hx
  isplitl [Hout]; · iexact Hout
  iexact Ho

end Body
end Cert.MlpProof

end
-- ==== Proof.Slots.lean ====
/-
# The scratch buffers, cut into slots

What a device holds before and after its body, and the scratch buffers whole against their slots.
-/
module

public import proofs.«01_k».proof.Proof.Body
public import Idealize.ShloMosaic.Lib.Ring.FamCut
public import Idealize.ShloMosaic.Lib.Pipeline.BigSepL

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut
omit [FloatOps F]
variable (c : Dev nD)

theorem both_ways {P Q : sProp 𝕄} (h : P ⊢ Q) (h' : Q ⊢ P) : P = Q := Entails.antisymm h h'

/-- A memref held at some contents, as the elements it covers. -/
theorem someOf_eq {sp : Space} {s : Shape} {e : EltTy} (v : Memref sig .tc sp s e) :
    (someOf c v : sProp 𝕄) = iprop(∃ f, v.view.loc (c : Thread nD τ) ↦[v.view.set]{fullShare} f) := by
  unfold someOf owns
  refine both_ways ?_ ?_
  · iintro ⟨%X, %f, -, H⟩; iexists f; iexact H
  · iintro ⟨%f, H⟩; iexists _; iexists f; isplitr
    · ipureintro; rfl
    · iexact H

theorem some_snd (lb : Fin 8) (k : Fin 2) : (someOf c (sndV lb k) : sProp 𝕄)
    = iprop(∃ f : Buf (Elt F) ((c : Thread nD τ).loc cc0_scratch0), (c : Thread nD τ).loc cc0_scratch0 ↦[(sndR lb k).set]{fullShare} f) := by
  have h : (sndV lb k).view.set = (sndR lb k).set := by unfold sndV; rw [Memref.set_view_squeeze]; exact View.set_slice_whole _ _
  rw [someOf_eq, h]; rfl
theorem some_rcv (lb : Fin 8) (j : Fin 4) : (someOf c (rcvV lb j) : sProp 𝕄)
    = iprop(∃ f : Buf (Elt F) ((c : Thread nD τ).loc cc0_scratch1), (c : Thread nD τ).loc cc0_scratch1 ↦[(rcvR lb j).set]{fullShare} f) := by
  have h : (rcvV lb j).view.set = (rcvR lb j).set := by unfold rcvV; rw [Memref.set_view_squeeze]; exact View.set_slice_whole _ _
  rw [someOf_eq, h]; rfl
theorem some_rr (r : Fin 7) : (someOf c (rrV r) : sProp 𝕄)
    = iprop(∃ f : Buf (Elt F) ((c : Thread nD τ).loc cc0_scratch3), (c : Thread nD τ).loc cc0_scratch3 ↦[(rrR r).set]{fullShare} f) := by
  have h : (rrV r).view.set = (rrR r).set := by unfold rrV; rw [Memref.set_view_squeeze]; exact View.set_slice_whole _ _
  rw [someOf_eq, h]; rfl
theorem some_wi (s : Fin 2) : (someOf c (wiV s) : sProp 𝕄)
    = iprop(∃ f : Buf (Elt F) ((c : Thread nD τ).loc cc0_scratch4), (c : Thread nD τ).loc cc0_scratch4 ↦[(wiR s).set]{fullShare} f) := by
  have h : (wiV s).view.set = (wiR s).set := by unfold wiV; rw [Memref.set_view_squeeze]; exact View.set_slice_whole _ _
  rw [someOf_eq, h]; rfl
theorem some_wo (s : Fin 2) : (someOf c (woV s) : sProp 𝕄)
    = iprop(∃ f : Buf (Elt F) ((c : Thread nD τ).loc cc0_scratch5), (c : Thread nD τ).loc cc0_scratch5 ↦[(woR s).set]{fullShare} f) := by
  have h : (woV s).view.set = (woR s).set := by unfold woV; rw [Memref.set_view_squeeze]; exact View.set_slice_whole _ _
  rw [someOf_eq, h]; rfl

/-- A buffer of device `c` whole at some contents. -/
def wholeAt (b : Ref sig .tc) : sProp 𝕄 := iprop(∃ f : Buf (Elt F) ((c : Thread nD τ).loc b), (c : Thread nD τ).loc b ↦{fullShare} f)
/-- What a family of rectangles leaves of it. -/
def leftOf (b : Ref sig .tc) {B : Type} [Fintype B] (I : B → Finset (Idx ((c : Thread nD τ).loc b))) : sProp 𝕄 :=
  iprop(∃ f : Buf (Elt F) ((c : Thread nD τ).loc b), (c : Thread nD τ).loc b ↦[Ring.restOf I]{fullShare} f)

/-- A whole buffer is its slots and what they leave, at some contents each. -/
theorem cut {B : Type} [Fintype B] [DecidableEq B] (b : Ref sig .tc) (I : B → Finset (Idx ((c : Thread nD τ).loc b)))
    (hd : ∀ x y, x ≠ y → Disjoint (I x) (I y)) (Φ : B → sProp 𝕄)
    (hΦ : ∀ x, Φ x = iprop(∃ f : Buf (Elt F) ((c : Thread nD τ).loc b), (c : Thread nD τ).loc b ↦[I x]{fullShare} f)) :
    wholeAt c b = iprop(bigSep Finset.univ Φ ∗ leftOf c b I) := by
  rw [funext hΦ]
  unfold wholeAt leftOf
  refine both_ways (Ring.fam_split_ex I hd) ?_
  iintro ⟨HI, ⟨%r, HR⟩⟩
  iapply (Ring.fam_join (Ix := Unit) (Name := ℕ) (U := UU) (Lvl := ℕ) (Val := Elt F) I hd (q := fullShare) r)
  isplitl [HI]; · iexact HI
  iexists r; iexact HR

theorem two_axes {A B : Type} [DecidableEq A] {x y : A × B} (h : x ≠ y) : x.1 ≠ y.1 ∨ x.2 ≠ y.2 := by
  by_cases h1 : x.1 = y.1
  · exact Or.inr fun h2 => h (Prod.ext h1 h2)
  · exact Or.inl h1

abbrev sndI (x : Fin 8 × Fin 2) : Finset (Idx ((c : Thread nD τ).loc cc0_scratch0)) := (sndR x.1 x.2).set
abbrev rcvI (x : XI) : Finset (Idx ((c : Thread nD τ).loc cc0_scratch1)) := (rcvR x.1 x.2).set
abbrev rrI (r : Fin 7) : Finset (Idx ((c : Thread nD τ).loc cc0_scratch3)) := (rrR r).set
abbrev wiI (s : Fin 2) : Finset (Idx ((c : Thread nD τ).loc cc0_scratch4)) := (wiR s).set
abbrev woI (s : Fin 2) : Finset (Idx ((c : Thread nD τ).loc cc0_scratch5)) := (woR s).set

theorem sndI_disjoint (x y : Fin 8 × Fin 2) (h : x ≠ y) : Disjoint (sndI c x) (sndI c y) := by
  rcases two_axes h with h | h
  · exact Rect.disjoint_of_axis _ _ 0 fun a ha b hb e => h (Fin.ext (by
      change a < 1 at ha; change b < 1 at hb; change x.1.val + 1 * a = y.1.val + 1 * b at e; omega))
  · exact Rect.disjoint_of_axis _ _ 1 fun a ha b hb e => h (Fin.ext (by
      change a < 1 at ha; change b < 1 at hb; change x.2.val + 1 * a = y.2.val + 1 * b at e; omega))
theorem rcvI_disjoint (x y : XI) (h : x ≠ y) : Disjoint (rcvI c x) (rcvI c y) := by
  rcases two_axes h with h | h
  · exact Rect.disjoint_of_axis _ _ 0 fun a ha b hb e => h (Fin.ext (by
      change a < 1 at ha; change b < 1 at hb; change x.1.val + 1 * a = y.1.val + 1 * b at e; omega))
  · exact Rect.disjoint_of_axis _ _ 1 fun a ha b hb e => h (Fin.ext (by
      change a < 1 at ha; change b < 1 at hb; change x.2.val + 1 * a = y.2.val + 1 * b at e; omega))
theorem rrI_disjoint (x y : Fin 7) (h : x ≠ y) : Disjoint (rrI c x) (rrI c y) :=
  Rect.disjoint_of_axis _ _ 0 fun a ha b hb e => h (Fin.ext (by
    change a < 1 at ha; change b < 1 at hb; change x.val + 1 * a = y.val + 1 * b at e; omega))
theorem wiI_disjoint (x y : Fin 2) (h : x ≠ y) : Disjoint (wiI c x) (wiI c y) :=
  Rect.disjoint_of_axis _ _ 0 fun a ha b hb e => h (Fin.ext (by
    change a < 1 at ha; change b < 1 at hb; change x.val + 1 * a = y.val + 1 * b at e; omega))
theorem woI_disjoint (x y : Fin 2) (h : x ≠ y) : Disjoint (woI c x) (woI c y) :=
  Rect.disjoint_of_axis _ _ 0 fun a ha b hb e => h (Fin.ext (by
    change a < 1 at ha; change b < 1 at hb; change x.val + 1 * a = y.val + 1 * b at e; omega))

/-- What the slots leave of the scratch buffers. -/
def leftovers : sProp 𝕄 :=
  iprop(leftOf c cc0_scratch0 (sndI c) ∗ leftOf c cc0_scratch1 (rcvI c) ∗ leftOf c cc0_scratch3 (rrI c)
    ∗ leftOf c cc0_scratch4 (wiI c) ∗ leftOf c cc0_scratch5 (woI c))
/-- The slots. -/
def slots : sProp 𝕄 :=
  iprop((bigSep Finset.univ fun x : Fin 8 × Fin 2 => someOf (F := F) c (sndV x.1 x.2)) ∗ (bigSep Finset.univ fun x : XI => someOf (F := F) c (rcvV x.1 x.2))
    ∗ (bigSep Finset.univ fun r => someOf (F := F) c (rrV r)) ∗ (bigSep Finset.univ fun s => wFree (F := F) c s) ∗ rsSome (F := F) c)

theorem scratch_eq : (Pipeline.scopedRest cfg0.spec c : sProp 𝕄) = iprop(slots c ∗ leftovers c) := by
  rw [show (Pipeline.scopedRest cfg0.spec c : sProp 𝕄) = iprop(wholeAt c cc0_scratch0 ∗ wholeAt c cc0_scratch1 ∗ wholeAt c cc0_scratch2
      ∗ wholeAt c cc0_scratch3 ∗ wholeAt c cc0_scratch4 ∗ wholeAt c cc0_scratch5) from scopedRest0_eq c,
    cut c cc0_scratch0 (sndI c) (sndI_disjoint c) (fun x => someOf c (sndV x.1 x.2)) (fun x => some_snd c x.1 x.2),
    cut c cc0_scratch1 (rcvI c) (rcvI_disjoint c) (fun x => someOf c (rcvV x.1 x.2)) (fun x => some_rcv c x.1 x.2),
    cut c cc0_scratch3 (rrI c) (rrI_disjoint c) (fun r => someOf c (rrV r)) (some_rr c),
    cut c cc0_scratch4 (wiI c) (wiI_disjoint c) (fun s => someOf c (wiV s)) (some_wi c),
    cut c cc0_scratch5 (woI c) (woI_disjoint c) (fun s => someOf c (woV s)) (some_wo c),
    show wholeAt (F := F) c cc0_scratch2 = rsSome c from rfl]
  unfold slots leftovers wFree
  rw [bigSep_sep']
  refine both_ways ?_ ?_
  · iintro ⟨⟨A0, B0⟩, ⟨A1, B1⟩, A2, ⟨A3, B3⟩, ⟨A4, B4⟩, A5, B5⟩
    isplitl [A0 A1 A2 A3 A4 A5]
    · isplitl [A0]; · iexact A0
      isplitl [A1]; · iexact A1
      isplitl [A3]; · iexact A3
      isplitl [A4 A5]
      · isplitl [A4]; · iexact A4
        iexact A5
      iexact A2
    · isplitl [B0]; · iexact B0
      isplitl [B1]; · iexact B1
      isplitl [B3]; · iexact B3
      isplitl [B4]; · iexact B4
      iexact B5
  · iintro ⟨⟨A0, A1, A3, ⟨A4, A5⟩, A2⟩, B0, B1, B3, B4, B5⟩
    isplitl [A0 B0]
    · isplitl [A0]; · iexact A0
      iexact B0
    isplitl [A1 B1]
    · isplitl [A1]; · iexact A1
      iexact B1
    isplitl [A2]; · iexact A2
    isplitl [A3 B3]
    · isplitl [A3]; · iexact A3
      iexact B3
    isplitl [A4 B4]
    · isplitl [A4]; · iexact A4
      iexact B4
    isplitl [A5]; · iexact A5
    iexact B5
end Cut

/-! ## Before and after the body -/

section Ends
variable (m : (ℓ : Loc nD τ sig) → Buf (Elt F) ℓ) (c : Dev nD)

/-- The weight arrays of a device. -/
def weights : sProp 𝕄 := bigSep Finset.univ fun k => iprop(inPts m c k ∗ outPts m c k)

/-- The duties a device pays, its positions in its cells' rounds, and the credits it takes. -/
def duties : sProp 𝕄 :=
  iprop((bigSep Finset.univ fun x : XI => dutyTok ER (ocell c (oSnd x.1 x.2)) 0 (0 : Fin 7))
    ∗ (bigSep Finset.univ fun x : XI => dutyTok ER (ocell (xDev x.1 x.2 c) (oRcv x.1 x.2)) 0 (0 : Fin 7))
    ∗ (bigSep Finset.univ fun r : Fin 7 => dutyTok ER (ocell c (oRss r)) 0 (0 : Fin 7))
    ∗ (bigSep Finset.univ fun r : Fin 7 => dutyTok ER (ocell (rDev r c) (oRsr r)) 0 (0 : Fin 7))
    ∗ (bigSep Finset.univ fun x : Fin 3 × Fin 2 => dutyTok ER (ocell c (oW x.1 x.2)) 0 (0 : Fin 7))
    ∗ (bigSep Finset.univ fun r : Fin 7 => dutyTok ER (bcell (bDev r c)) 0 r))
def places : sProp 𝕄 := bigSep Finset.univ fun k : Cl => atPos ER (kcell (c, k)) 0 ∅ 0
def credits : sProp 𝕄 :=
  iprop(cred (tallyAt (bcell c) () 7) ∗ (bigSep Finset.univ fun x : XI => cred (tallyAt (ocell c (oRcv x.1 x.2)) () (cellAmt (.inr (oRcv x.1 x.2)))))
    ∗ (bigSep Finset.univ fun r : Fin 7 => cred (tallyAt (ocell c (oRsr r)) () (cellAmt (.inr (oRsr r))))))

/-- A family over the cells, sorted by kind. -/
theorem over_cells {M : Type} [URA M] (Φ : Cl → sProp M) : bigSep Finset.univ Φ
    = iprop(Φ kBar ∗ (bigSep Finset.univ fun x : XI => Φ (.inr (oSnd x.1 x.2))) ∗ (bigSep Finset.univ fun x : XI => Φ (.inr (oRcv x.1 x.2)))
      ∗ (bigSep Finset.univ fun r => Φ (.inr (oRss r))) ∗ (bigSep Finset.univ fun r => Φ (.inr (oRsr r)))
      ∗ (bigSep Finset.univ fun x : Fin 3 × Fin 2 => Φ (.inr (oW x.1 x.2)))) := by
  rw [bigSep_univ_sum, bigSep_univ_sum, bigSep_univ_sum, bigSep_univ_sum, bigSep_univ_sum]
  rw [show (bigSep Finset.univ fun u : Unit => Φ (.inl u)) = Φ kBar from bigSep_singleton]
  rfl

/-- The devices' invariants, what they hold before the body beside their buffers, and what they hold after. -/
def ahead : sProp 𝕄 := iprop(weights m c ∗ duties (F := F) c ∗ places (F := F) c ∗ credits (F := F) c)
def behind : sProp 𝕄 := iprop(weights m c ∗ bigSep Finset.univ fun k : Cl => semVal (kcell (c, k)) 0)

/-- A family over a layer's two copies. -/
theorem over_copies {M : Type} [URA M] (Φ : Fin 3 → Fin 2 → sProp M) :
    (bigSep Finset.univ fun k => iprop(Φ k 0 ∗ Φ k 1)) = bigSep Finset.univ fun x : Fin 3 × Fin 2 => Φ x.1 x.2 := by
  rw [bigSep_univ_prod]; exact bigSep_congr fun k _ => (big2 (Φ k)).symm
theorem over_slots {M : Type} [URA M] (Φ : Fin 8 → Fin 2 → sProp M) :
    (bigSep Finset.univ fun lb => iprop(Φ lb 0 ∗ Φ lb 1)) = bigSep Finset.univ fun x : Fin 8 × Fin 2 => Φ x.1 x.2 := by
  rw [bigSep_univ_prod]; exact bigSep_congr fun k _ => (big2 (Φ k)).symm
theorem over_transfers {M : Type} [URA M] (Φ : Fin 8 → Fin 4 → sProp M) :
    (bigSep Finset.univ fun lb => iprop(Φ lb 0 ∗ Φ lb 1 ∗ Φ lb 2 ∗ Φ lb 3)) = bigSep Finset.univ fun x : XI => Φ x.1 x.2 := by
  rw [bigSep_univ_prod]; exact bigSep_congr fun k _ => (big4 (Φ k)).symm

theorem S0_all : (bigSep Finset.univ fun lb => S0 (F := F) c lb)
    = iprop((bigSep Finset.univ fun x : Fin 8 × Fin 2 => someOf (F := F) c (sndV x.1 x.2)) ∗ bigSep Finset.univ fun x : XI => xTok (F := F) c x.1 x.2) := by
  unfold S0
  rw [bigSep_sep', over_slots (fun lb k => someOf (F := F) c (sndV lb k)), over_transfers (fun lb j => xTok (F := F) c lb j)]
theorem S3_all : (bigSep Finset.univ fun lb => S3 (F := F) c lb)
    = iprop((bigSep Finset.univ fun x : Fin 8 × Fin 2 => someOf (F := F) c (sndV x.1 x.2)) ∗ (bigSep Finset.univ fun x : XI => xDone (F := F) c x.1 x.2)
      ∗ bigSep Finset.univ fun x : XI => someOf (F := F) c (rcvV x.1 x.2)) := by
  unfold S3
  rw [bigSep_sep', over_slots (fun lb k => someOf (F := F) c (sndV lb k)), bigSep_sep', over_transfers (fun lb j => xDone (F := F) c lb j),
    over_transfers (fun lb j => someOf (F := F) c (rcvV lb j))]
theorem wPre_all : (bigSep Finset.univ fun k => wPre (F := F) m c k)
    = iprop(((bigSep Finset.univ fun x : Fin 3 × Fin 2 => dutyTok ER (ocell c (oW x.1 x.2)) 0 (0 : Fin 7))
      ∗ bigSep Finset.univ fun x : Fin 3 × Fin 2 => atPos ER (ocell c (oW x.1 x.2)) 0 ∅ 0) ∗ weights m c) := by
  unfold wPre weights
  rw [bigSep_sep', over_copies (fun k i => wTok (F := F) c k i)]
  unfold wTok
  rw [bigSep_sep']
theorem wDone_all : (bigSep Finset.univ fun k => wDone (F := F) m c k)
    = iprop((bigSep Finset.univ fun x : Fin 3 × Fin 2 => semVal (ocell c (oW x.1 x.2)) 0) ∗ weights m c) := by
  unfold wDone weights
  rw [bigSep_sep', over_copies (fun k i => (semVal (ocell c (oW k i)) 0 : sProp 𝕄))]

/-- What the body starts from, put together. -/
theorem body_starts (ρ : Dev nD → PrngReg) :
    iprop((ahead m c ∗ slots (F := F) c) ∗ xHeld m ρ c ∗ outSome (F := F) c ∗ ow (F := F) c payAll) ⊢ bodyPre m ρ c := by
  unfold bodyPre
  rw [S0_all, wPre_all]
  unfold ahead duties places credits slots sigTok barTok xTok rTok
  rw [over_cells (fun k => (atPos ER (kcell (c, k)) 0 ∅ 0 : sProp 𝕄))]
  simp only [bigSep_sep', sorted (fun x : XI => xIdx x.2)]
  iintro ⟨⟨⟨HW, ⟨D1, D2, D3, D4, D5, D6⟩, ⟨P0, P1, P2, P3, P4, P5⟩, C0, C1, C2⟩, B0, B1, B2, B3, B4⟩, Hx, Hout, Ho⟩
  isplitl [HW D5 P5]
  · isplitl [D5 P5]
    · isplitl [D5]; · iexact D5
      iexact P5
    iexact HW
  isplitl [B3]; · iexact B3
  isplitl [D6 B1 B2]
  · isplitl [D6]; · iexact D6
    isplitl [B1]; · iexact B1
    iexact B2
  isplitl [C0 P0]
  · isplitl [C0]; · iexact C0
    iexact P0
  isplitl [B0 D1 D2 P1 P2 C1]
  · isplitl [B0]; · iexact B0
    isplitl [D1]; · iexact D1
    isplitl [D2]; · iexact D2
    isplitl [P1]; · iexact P1
    isplitl [P2]; · iexact P2
    iexact C1
  isplitl [B4]; · iexact B4
  isplitl [D3 D4 P3 P4 C2]
  · isplitl [D3]; · iexact D3
    isplitl [D4]; · iexact D4
    isplitl [P3]; · iexact P3
    isplitl [P4]; · iexact P4
    iexact C2
  isplitl [Hx]; · iexact Hx
  isplitl [Hout]; · iexact Hout
  iexact Ho

/-- What it ends with, taken apart. -/
theorem body_ends (ρ : Dev nD → PrngReg) :
    bodyPost m ρ c ⊢ iprop((behind m c ∗ slots (F := F) c) ∗ xHeld m ρ c ∗ outHeld m ρ c ∗ ow (F := F) c []) := by
  unfold bodyPost
  rw [S3_all, wDone_all]
  unfold behind slots xDone rDone
  rw [over_cells (fun k => (semVal (kcell (c, k)) 0 : sProp 𝕄))]
  simp only [bigSep_sep']
  iintro ⟨⟨P5, HW⟩, B3, P0, ⟨B0, ⟨P1, P2⟩, B1⟩, B4, ⟨⟨P3, P4⟩, B2⟩, Hx, Hout, Ho⟩
  isplitl [HW P0 P1 P2 P3 P4 P5 B0 B1 B2 B3 B4]
  · isplitl [HW P0 P1 P2 P3 P4 P5]
    · isplitl [HW]; · iexact HW
      isplitl [P0]; · iexact P0
      isplitl [P1]; · iexact P1
      isplitl [P2]; · iexact P2
      isplitl [P3]; · iexact P3
      isplitl [P4]; · iexact P4
      iexact P5
    isplitl [B0]; · iexact B0
    isplitl [B1]; · iexact B1
    isplitl [B2]; · iexact B2
    isplitl [B3]; · iexact B3
    iexact B4
  isplitl [Hx]; · iexact Hx
  isplitl [Hout]; · iexact Hout
  iexact Ho
end Ends

end Cert.MlpProof
-- ==== Proof.Deal.lean ====
/-
# Dealing the launch

The invariants of all cells allocated at once, each duty token given to the device that pays the duty, and the launch
credit sorted by cell.
-/
module

public import proofs.«01_k».proof.Proof.Slots
public import Idealize.ShloMosaic.Lib.Ring.FamCut
public import Idealize.ShloMosaic.Lib.Pipeline.BigSepL

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

def allCells : Finset (GSem nD τ sig) := Finset.univ.map ⟨kcell, kcell_injective⟩

/-- The duty tokens of a device's own cells: the barrier's seven and every other cell's one. -/
abbrev tokOf (x : Dev nD × (Fin 7 ⊕ Own)) : GSem nD τ sig × ℕ × Fin 7 := match x.2 with
  | .inl r => (bcell x.1, 0, r)
  | .inr o => (ocell x.1 o, 0, 0)
theorem tokOf_injective : Function.Injective tokOf := by
  rintro ⟨c, r | o⟩ ⟨c', r' | o'⟩ h
  · have h1 := kcell_injective (a₁ := (c, kBar)) (a₂ := (c', kBar)) (congrArg Prod.fst h)
    have h2 : r = r' := congrArg (fun x : GSem nD τ sig × ℕ × Fin 7 => x.2.2) h
    have h3 : c = c' := congrArg Prod.fst h1
    rw [h2, h3]
  · have h1 := kcell_injective (a₁ := (c, kBar)) (a₂ := (c', .inr o')) (congrArg Prod.fst h)
    cases congrArg Prod.snd h1
  · have h1 := kcell_injective (a₁ := (c, .inr o)) (a₂ := (c', kBar)) (congrArg Prod.fst h)
    cases congrArg Prod.snd h1
  · have h1 := kcell_injective (a₁ := (c, .inr o)) (a₂ := (c', .inr o')) (congrArg Prod.fst h)
    have h3 : c = c' := congrArg Prod.fst h1
    have h4 : o = o' := Sum.inr.inj (congrArg Prod.snd h1)
    rw [h3, h4]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

def toks (c : Dev nD) : sProp 𝕄 :=
  iprop((bigSep Finset.univ fun r : Fin 7 => dutyTok ER (bcell c) 0 r) ∗ bigSep Finset.univ fun o : Own => dutyTok ER (ocell c o) 0 (0 : Fin 7))
def marks (c : Dev nD) : sProp 𝕄 := bigSep Finset.univ fun k : Cl => reached ER (kcell (c, k)) 0

def dealt (c : Dev nD) : sProp 𝕄 :=
  iprop((bigSep Finset.univ fun k : Cl => roundState ER (sched (F := F) m ρ) (kcell (c, k)) 0) ∗ places (F := F) c ∗ marks (F := F) c ∗ toks (F := F) c)
def shared (c : Dev nD) : sProp 𝕄 :=
  iprop(∃ K : Dev nD × Cl → ℕ, ((bigSep Finset.univ fun ck : Dev nD × Cl => cellInv ER (sched (F := F) m ρ) (K ck) (kcell ck))
    ∗ (bigSep Finset.univ fun ck : Dev nD × Cl => reached ER (kcell ck) 0)) ∗ duties (F := F) c ∗ places (F := F) c)

theorem over_all (Φ : GSem nD τ sig → sProp 𝕄) :
    bigSep allCells Φ = bigSep Finset.univ fun c : Dev nD => bigSep Finset.univ fun k : Cl => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

theorem fund : BI.own (ER (initOf allCells allToks)) ⊢ (|==> bigSep Finset.univ (dealt (F := F) m ρ) : sProp 𝕄) := by
  iintro HX
  imod (Rounds.fund ER (sched (F := F) m ρ) allCells allToks) $$ HX with ⟨Hst, Hr, Hat, Htok⟩
  imodintro
  ihave Hst := (Entails.of_eq (over_all fun g => roundState ER (sched (F := F) m ρ) g 0)) $$ Hst
  ihave Hat := (Entails.of_eq (over_all (F := F) fun g => atPos ER g 0 ∅ 0)) $$ Hat
  ihave Hr := (Entails.of_eq (over_all (F := F) fun g => reached ER g 0)) $$ Hr
  ihave Htok := (Entails.of_eq (over_toks (F := F))) $$ Htok
  unfold dealt places marks; simp only [bigSep_sep']
  isplitl [Hst]; · iexact Hst
  isplitl [Hat]; · iexact Hat
  isplitl [Hr]; · iexact Hr
  iexact Htok

/-! ## The semaphores -/

theorem bar_sems (c : Dev nD) : (unscopedSems0 c : sProp 𝕄) = semVal (bcell c) 0 := by
  unfold unscopedSems0; rw [bigSep_eq_bigSepL_of_eq [SemLoc.reg barS] (by decide) (by decide)]; rfl
theorem all_sems (c : Dev nD) : iprop(Pipeline.ownSems0 (Ix := Unit) (Name := ℕ) (U := UU) (Lvl := ℕ) (Val := Elt F) (τ := τ) osem c ∗ unscopedSems0 c)
    = (bigSep Finset.univ fun k : Cl => semVal (kcell (c, k)) 0 : sProp 𝕄) := by
  rw [bar_sems, bigSep_univ_sum, show (bigSep Finset.univ fun u : Unit => (semVal (kcell (c, .inl u)) 0 : sProp 𝕄)) = semVal (bcell c) 0 from bigSep_singleton]
  show iprop((bigSep Finset.univ fun o : Own => semVal (ocell c o) 0) ∗ semVal (bcell c) 0)
    = iprop(semVal (bcell c) 0 ∗ bigSep Finset.univ fun o : Own => (semVal (ocell c o) 0 : sProp 𝕄))
  refine both_ways ?_ ?_
  · iintro ⟨A, B⟩
    isplitl [B]; · iexact B
    iexact A
  · iintro ⟨A, B⟩
    isplitl [B]; · iexact B
    iexact A

/-! ## The invariants, and the tokens dealt around -/

def sorted_out (c : Dev nD) : sProp 𝕄 :=
  iprop((bigSep Finset.univ fun k : Cl => iprop(∃ κ : ℕ, cellInv ER (sched (F := F) m ρ) κ (kcell (c, k)))) ∗ places (F := F) c ∗ marks (F := F) c ∗ toks (F := F) c)

theorem alloc (c : Dev nD) :
    iprop(Pipeline.ownSems0 (Ix := Unit) (Name := ℕ) (U := UU) (Lvl := ℕ) (Val := Elt F) (τ := τ) osem c ∗ unscopedSems0 c ∗ dealt (F := F) m ρ c)
      ⊢ |={Set.univ}=> sorted_out m ρ c := by
  unfold dealt sorted_out
  iintro ⟨Hos, Hus, Hst, H⟩
  ihave Hv := (Entails.of_eq (all_sems (F := F) c)) $$ [Hos Hus]
  · isplitl [Hos] <;> iassumption
  imod (show iprop((bigSep Finset.univ fun k : Cl => semVal (kcell (c, k)) 0) ∗ bigSep Finset.univ fun k : Cl => roundState ER (sched (F := F) m ρ) (kcell (c, k)) 0)
      ⊢ (|={Set.univ}=> bigSep Finset.univ fun k : Cl => iprop(∃ κ : ℕ, cellInv ER (sched (F := F) m ρ) κ (kcell (c, k))) : sProp 𝕄) from by
        rw [← bigSep_sep']
        exact (bigSep_mono fun k _ => (Rounds.body_intro ER (sched (F := F) m ρ) (kcell (c, k))).trans inv_alloc).trans (bigSep_fupd _ _)) $$ [Hv Hst] with Hinv
  · isplitl [Hv] <;> iassumption
  imodintro
  isplitl [Hinv]; · iexact Hinv
  iexact H

/-- A family over devices and names, each name's part moved along a permutation of the devices. -/
theorem around {B : Type} [Fintype B] (e : B → Dev nD ≃ Dev nD) (Φ : Dev nD → B → sProp 𝕄) :
    (bigSep Finset.univ fun c => bigSep Finset.univ fun b => Φ c b) = bigSep Finset.univ fun c => bigSep Finset.univ fun b => Φ (e b c) b := by
  rw [both_orders, both_orders (fun c b => Φ (e b c) b)]
  exact bigSep_congr fun b _ => bigSep_univ_equiv (e b) fun c => Φ c b

theorem over_own (Φ : Own → sProp 𝕄) : bigSep Finset.univ Φ
    = iprop((bigSep Finset.univ fun x : XI => Φ (oSnd x.1 x.2)) ∗ (bigSep Finset.univ fun x : XI => Φ (oRcv x.1 x.2))
      ∗ (bigSep Finset.univ fun r => Φ (oRss r)) ∗ (bigSep Finset.univ fun r => Φ (oRsr r)) ∗ (bigSep Finset.univ fun x : Fin 3 × Fin 2 => Φ (oW x.1 x.2))) := by
  rw [bigSep_univ_sum, bigSep_univ_sum, bigSep_univ_sum, bigSep_univ_sum]; rfl

theorem toks_around : (bigSep Finset.univ fun c : Dev nD => (toks c : sProp 𝕄)) = bigSep Finset.univ fun c : Dev nD => duties c := by
  unfold duties
  simp only [bigSep_sep']
  rw [show (bigSep Finset.univ fun c : Dev nD => bigSep Finset.univ fun x : XI => (dutyTok ER (ocell (xDev x.1 x.2 c) (oRcv x.1 x.2)) 0 (0 : Fin 7) : sProp 𝕄))
      = _ from (around (fun x : XI => xPerm x.1 x.2) fun c x => (dutyTok ER (ocell c (oRcv x.1 x.2)) 0 (0 : Fin 7) : sProp 𝕄)).symm,
    show (bigSep Finset.univ fun c : Dev nD => bigSep Finset.univ fun r : Fin 7 => (dutyTok ER (ocell (rDev r c) (oRsr r)) 0 (0 : Fin 7) : sProp 𝕄))
      = _ from (around rPerm fun c r => (dutyTok ER (ocell c (oRsr r)) 0 (0 : Fin 7) : sProp 𝕄)).symm,
    show (bigSep Finset.univ fun c : Dev nD => bigSep Finset.univ fun r : Fin 7 => (dutyTok ER (bcell (bDev r c)) 0 r : sProp 𝕄))
      = _ from (around bPerm fun c r => (dutyTok ER (bcell c) 0 r : sProp 𝕄)).symm]
  simp only [← bigSep_sep']
  refine bigSep_congr fun c _ => ?_
  unfold toks
  rw [over_own]
  refine both_ways ?_ ?_
  · iintro ⟨A, B, C, D, E, G⟩
    isplitl [B]; · iexact B
    isplitl [C]; · iexact C
    isplitl [D]; · iexact D
    isplitl [E]; · iexact E
    isplitl [G]; · iexact G
    iexact A
  · iintro ⟨B, C, D, E, G, A⟩
    isplitl [A]; · iexact A
    isplitl [B]; · iexact B
    isplitl [C]; · iexact C
    isplitl [D]; · iexact D
    isplitl [E]; · iexact E
    iexact G

/-- What every device may copy is given to all. -/
theorem give_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup : bigSep Finset.univ (sorted_out (F := F) m ρ) ⊢ bigSep Finset.univ (shared (F := F) m ρ) := by
  rw [show bigSep Finset.univ (sorted_out (F := F) m ρ) = bigSep Finset.univ fun c => sorted_out (F := F) m ρ c from rfl]
  unfold sorted_out marks
  simp only [bigSep_sep']
  rw [toks_around, ← bigSep_univ_prod (fun ck : Dev nD × Cl => iprop(∃ κ : ℕ, cellInv ER (sched (F := F) m ρ) κ (kcell ck))),
    ← bigSep_univ_prod (fun ck : Dev nD × Cl => (reached ER (kcell ck) 0 : sProp 𝕄))]
  iintro ⟨HI, Hat, #HR, Htok⟩
  ihave HK := (BI.bigSep_exists_pi Finset.univ (fun (ck : Dev nD × Cl) (κ : ℕ) => (cellInv ER (sched (F := F) m ρ) κ (kcell ck) : sProp 𝕄))) $$ HI
  icases HK with ⟨%K, #HI⟩
  iapply (give_all (F := F) (R := iprop((bigSep Finset.univ fun ck : Dev nD × Cl => cellInv ER (sched (F := F) m ρ) (K ck) (kcell ck))
    ∗ (bigSep Finset.univ fun ck : Dev nD × Cl => reached ER (kcell ck) 0))) (Φ := fun c => iprop(duties c ∗ places c)) fun c => by
      unfold shared
      iintro H
      iexists K
      iexact H)
  isplitr
  · isplitl; · iexact HI
    iexact HR
  · iapply (Entails.of_eq (bigSep_sep' Finset.univ (duties (F := F)) (places (F := F))).symm)
    isplitl [Htok]; · iexact Htok
    iexact Hat

theorem glob : (bigSep Finset.univ fun c => iprop(Pipeline.ownSems0 (Ix := Unit) (Name := ℕ) (U := UU) (Lvl := ℕ) (Val := Elt F) (τ := τ) osem c
      ∗ unscopedSems0 c ∗ dealt (F := F) m ρ c) : sProp 𝕄)
    ⊢ |={Set.univ}=> bigSep Finset.univ (shared (F := F) m ρ) :=
  ((bigSep_mono fun c _ => alloc m ρ c).trans (bigSep_fupd _ _)).trans (BI.fupd_mono (regroup m ρ))

/-! ## The launch credit -/

/-- The credit of a payment, at the device that is paid. -/
def owedTo (c : Dev nD) (p : Pay) : sProp 𝕄 := cred (tallyAt (kcell (c, payCl p)) () (cellAmt (payCl p)))

theorem credit_list (c : Dev nD) (l : List Pay) : (Pipeline.launchCred (fun d => owedL d l) c : sProp 𝕄) ⊢ bigSepL l (owedTo (F := F) c) := by
  induction l with
  | nil =>
    rw [show (fun d : Dev nD => owedL d []) = fun _ => 0 from rfl, Pipeline.launchCred_zero]
    exact Entails.refl _
  | cons p l ih =>
    rw [show (fun d : Dev nD => owedL d (p :: l)) = fun d => owedL d l + tallyAt (kcell (payDev p d, payCl p)) () (cellAmt (payCl p)) from rfl,
      Pipeline.launchCred_add, bigSepL_cons']
    iintro ⟨A, B⟩
    isplitl [B]
    · unfold owedTo
      iapply (Pipeline.launchCred_tallyAt (csem (payCl p)) (payDev p) (payDev p) (payDev_payDev p) (payDev_payDev p) () (cellAmt (payCl p)) c)
      iexact B
    · iapply ih
      iexact A

/-- The payments by kind. -/
def payIx : Pay → Fin 7 ⊕ XI ⊕ Fin 7
  | .bar r => .inl r
  | .x lb j => .inr (.inl (lb, j))
  | .rs r => .inr (.inr r)
def ixPay : Fin 7 ⊕ XI ⊕ Fin 7 → Pay
  | .inl r => .bar r
  | .inr (.inl x) => .x x.1 x.2
  | .inr (.inr r) => .rs r
theorem ixPay_payIx (p : Pay) : ixPay (payIx p) = p := by cases p <;> rfl

theorem credit_all (c : Dev nD) : bigSepL payAll (owedTo (F := F) c)
    = iprop((bigSep Finset.univ fun r => owedTo (F := F) c (.bar r)) ∗ (bigSep Finset.univ fun x : XI => owedTo (F := F) c (.x x.1 x.2))
      ∗ bigSep Finset.univ fun r => owedTo (F := F) c (.rs r)) := by
  rw [show (owedTo (F := F) c) = fun p => owedTo c (ixPay (payIx p)) from funext fun p => by rw [ixPay_payIx],
    ← bigSepL_map payIx payAll fun i => owedTo (F := F) c (ixPay i),
    ← bigSep_univ_eq_bigSepL (payAll.map payIx) (by decide +kernel) (by decide +kernel) fun i => owedTo (F := F) c (ixPay i),
    bigSep_univ_sum, bigSep_univ_sum]
  rfl

/-- Seven units of the barrier together. -/
theorem bar_credit (c : Dev nD) : (bigSep Finset.univ fun r => owedTo (F := F) c (.bar r)) ⊢ cred (tallyAt (bcell c) () 7) := by
  have h (a b : ℕ) : iprop(cred (tallyAt (bcell c) () a) ∗ cred (tallyAt (bcell c) () b)) ⊢ (cred (tallyAt (bcell c) () (a + b)) : sProp 𝕄) := by
    rw [← tallyAt_add]; exact (cred_add _ _).2
  rw [bigSep_univ_eq_bigSepL [0, 1, 2, 3, 4, 5, 6] (by decide) (by decide)]
  exact (sep_mono_right ((sep_mono_right ((sep_mono_right ((sep_mono_right ((sep_mono_right (h 1 1)).trans (h 1 2))).trans (h 1 3))).trans (h 1 4))).trans (h 1 5))).trans (h 1 6)

theorem credit_intro (c : Dev nD) : (Pipeline.launchCred (fun d => owedL d payAll) c : sProp 𝕄) ⊢ credits (F := F) c := by
  unfold credits
  iintro H
  ihave H := (credit_list (F := F) c payAll) $$ H
  ihave H := (Entails.of_eq (credit_all (F := F) c)) $$ H
  icases H with ⟨A, B, C⟩
  isplitl [A]; · iapply (bar_credit (F := F) c); iexact A
  isplitl [B]; · iexact B
  iexact C

end Cert.MlpProof
-- ==== Proof.Launch.lean ====
/-
# The launch

What a device is dealt at the launch, that its body meets the pipeline's obligation, and the run of the whole program.
-/
module

public import proofs.«01_k».proof.Proof.Deal
public import Idealize.ShloMosaic.Lib.Ring.FamCut
public import Idealize.ShloMosaic.Lib.Pipeline.BigSepL
public import Idealize.ShloMosaic.Lib.Pipeline.CollectiveSegs

@[expose] public section

noncomputable section

namespace Cert.MlpProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

def start (c : Dev nD) : sProp 𝕄 := iprop((∃ K, ctx (F := F) m ρ K) ∗ ahead (F := F) m c)
def before (c : Dev nD) : sProp 𝕄 := iprop(start m ρ c ∗ slots (F := F) c ∗ leftovers (F := F) c)
def after (c : Dev nD) : sProp 𝕄 := iprop(behind (F := F) m c ∗ slots (F := F) c ∗ leftovers (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outVal m ρ c
  Φ t := match t with
    | ⟨0, _⟩ => before m ρ c
    | ⟨_ + 1, _⟩ => after m c
  q _ := fullShare
  owed t := match t with
    | ⟨0, _⟩ => owedL c payAll
    | ⟨_ + 1, _⟩ => 0

omit [FloatOps F] in
theorem windows (Φ : Fin cfg0.W → sProp 𝕄) : bigSep Finset.univ Φ = iprop(Φ (0 : Fin 2) ∗ Φ (1 : Fin 2)) := bigSep_W0 Φ

/-- A buffer of device `c` holding `X`. -/
abbrev holds (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))
omit [FloatOps F] in
theorem owns_holds (c : Dev nD) (b : Ref sig .tc) (X : b.ty.Contents (Elt F)) :
    (owns (Ix := Unit) (Name := ℕ) (U := UU) (Lvl := ℕ) (c : Thread nD τ) (Memref.whole b) fullShare X : sProp 𝕄) = holds c b X := by
  unfold owns holds; simp only [Memref.view_whole, View.read_whole, View.set_whole]

/-! ## The body's obligation -/

def enter (c : Dev nD) : sProp 𝕄 :=
  iprop(before m ρ c ∗ (dats m ρ 0 c).owesAt () (t0_0 : Fin cfg0.N).castSucc
    ∗ (∃ d, holds c cc0_stg0_0 ((dats m ρ 0 c).before (0 : Fin 2) t0_0 d)) ∗ (∃ d, holds c cc0_stg1_0 ((dats m ρ 0 c).before (1 : Fin 2) t0_0 d)))
def leave (c : Dev nD) : sProp 𝕄 :=
  iprop(after m c ∗ (dats m ρ 0 c).owesAt () (t0_0 : Fin cfg0.N).succ ∗ holds c cc0_stg0_0 (xstg m ρ c) ∗ holds c cc0_stg1_0 (outVal m ρ c))

theorem staged (c : Dev nD) (d) : (dats m ρ 0 c).before (0 : Fin 2) t0_0 d = xstg m ρ c := by
  unfold Dat.before; rw [if_pos (show (cfg0.win (0 : Fin 2)).fetch t0_0 = true from rfl)]; rfl

theorem enter_body (c : Dev nD) : enter m ρ c ⊢ iprop((∃ K, ctx (F := F) m ρ K) ∗ bodyPre m ρ c ∗ leftovers (F := F) c) := by
  unfold enter before start Dat.owesAt Pipeline.owesWithin
  iintro ⟨⟨⟨HC, HA⟩, HS, HL⟩, ⟨%W, -, HO⟩, ⟨%d0, %g0, %h0, Hx⟩, ⟨%d1, %g1, -, Hout⟩⟩
  rw [staged] at h0; subst h0
  isplitl [HC]; · iexact HC
  isplitl [HA HS HO Hx Hout]
  · iapply (body_starts m c ρ)
    isplitl [HA HS]
    · isplitl [HA]; · iexact HA
      iexact HS
    isplitl [Hx]; · unfold xHeld; iexact Hx
    isplitl [Hout]; · unfold outSome; iexists g1; iexact Hout
    unfold ow; iexists W; iexact HO
  · iexact HL

theorem body_leave (c : Dev nD) : iprop(bodyPost m ρ c ∗ leftovers (F := F) c) ⊢ leave m ρ c := by
  unfold leave after Dat.owesAt Pipeline.owesWithin
  iintro ⟨HB, HL⟩
  ihave H := (body_ends m c ρ) $$ HB
  unfold ow xHeld outHeld
  icases H with ⟨⟨HA, HS⟩, Hx, Hout, ⟨%W, HO⟩⟩
  isplitl [HA HS HL]
  · isplitl [HA]; · iexact HA
    isplitl [HS]; · iexact HS
    iexact HL
  isplitl [HO]
  · iexists W; isplitr; · ipureintro; exact fun _ _ => Or.inl trivial
    iexact HO
  isplitl [Hx]
  · iexists (xstg m ρ c); isplitr; · (ipureintro; rfl)
    iexact Hx
  iexists (outVal m ρ c); isplitr; · (ipureintro; rfl)
  iexact Hout

theorem run_id (c : Dev nD) {α : Type} (k : Dev nD → PG F α) (Q : α → sProp 𝕄) :
    run c (Prog.lift .deviceId >>= k) Q = run c (k c) Q := by
  simp only [Prog.lift, Prog.bind_op, Prog.bind_ret]
  exact wp_deviceId ..
theorem run_device (c : Dev nD) : enter m ρ c ⊢ run c (Prog.lift .deviceId >>= fun d : Dev nD => bodyOn d) (fun _ => leave m ρ c) := by
  iintro H
  ihave H := (enter_body m ρ c) $$ H
  icases H with ⟨⟨%K, #HC⟩, HB, HL⟩
  rw [run_id]
  iapply (run_body m ρ K c)
  isplitr; · iexact HC
  isplitl [HB]; · iexact HB
  iintro HP
  iapply (body_leave m ρ c)
  isplitl [HP]; · iexact HP
  iexact HL

/-- The program the grid runs at its only point is the device's body. -/
theorem body_at : (defs₀ (F := F)) Proc.tc (0 : Fin 1) (t0_0, cfg0.slots t0_0) = (Prog.lift .deviceId >>= fun c : Dev nD => bodyOn c) := by
  rw [← body_eq]
  rfl

theorem run_point (c : Dev nD) : enter m ρ c ⊢ run c ((defs₀ (F := F)) Proc.tc (0 : Fin 1) (t0_0, cfg0.slots t0_0)) (fun _ => leave m ρ c) := by
  have h := run_device (F := F) m ρ c
  revert h
  generalize hp : (Prog.lift .deviceId >>= fun d : Dev nD => bodyOn (F := F) d) = p
  rw [body_at.trans hp]
  exact fun h => h

theorem phi_first (c : Dev nD) : (dats m ρ 0 c).Φ (t0_0 : Fin cfg0.N).castSucc = before m ρ c := rfl
theorem phi_last (c : Dev nD) : (dats m ρ 0 c).Φ (t0_0 : Fin cfg0.N).succ = after m c := rfl
theorem after_x (c : Dev nD) : (dats m ρ 0 c).after (0 : Fin 2) t0_0 = xstg m ρ c := rfl
theorem after_out (c : Dev nD) : (dats m ρ 0 c).after (1 : Fin 2) t0_0 = outVal m ρ c := rfl

/-- The one point of the grid, in the words of the launch. -/
theorem body_obligation (c : Dev nD) : BodyObligation (dats (F := F) m ρ 0 c) (defs₀ (F := F)) 𝒱₀ () Set.univ := fun t => by
  rw [fin_N0 t]
  rw [windows, windows]
  simp only [owns_holds]
  have h := run_point m ρ c
  unfold enter leave at h
  rw [phi_first, phi_last, after_x, after_out]
  generalize (defs₀ (F := F)) Proc.tc (0 : Fin 1) (t0_0, cfg0.slots t0_0) = p at h ⊢
  exact h

/-! ## The launch's other conditions -/

theorem ownSemFacts : Pipeline.OwnSemFacts cfg0.spec osem := by decide +kernel

theorem share_eq (c : Dev nD) (w : Fin cfg0.W) : (dats m ρ 0 c).share w = fullShare := by unfold Dat.share; split <;> rfl

/-- The weights' arrays. -/
def wRef (i : Fin 6) : Ref sig .tc := ![main_arg1, main_arg2, main_arg3, main_arg4, main_arg5, main_arg6] i
def wPts (c : Dev nD) (i : Fin 6) : sProp 𝕄 := (c : Thread nD τ).loc (wRef i) ↦{fullShare} m ((c : Thread nD τ).loc (wRef i))

theorem wPts_in (c : Dev nD) (k : Fin 3) : inPts (F := F) m c k = wPts m c ⟨k.val, by omega⟩ := by
  unfold inPts wPts
  rw [Memref.IsWhole.set_eq_univ (hinM_whole k)]
  fin_cases k <;> rfl
theorem wPts_out (c : Dev nD) (k : Fin 3) : outPts (F := F) m c k = wPts m c ⟨k.val + 3, by omega⟩ := by
  unfold outPts wPts
  rw [Memref.IsWhole.set_eq_univ (houtM_whole k)]
  fin_cases k <;> rfl
theorem weights_eq (c : Dev nD) : weights (F := F) m c = bigSep Finset.univ (wPts (F := F) m c) := by
  unfold weights
  rw [big3, bigSep_univ_eq_bigSepL [0, 1, 2, 3, 4, 5] (by decide) (by decide)]
  simp only [wPts_in, wPts_out]
  show iprop((wPts m c 0 ∗ wPts m c 3) ∗ (wPts m c 1 ∗ wPts m c 4) ∗ wPts m c 2 ∗ wPts m c 5)
    = iprop(wPts m c 0 ∗ wPts m c 1 ∗ wPts m c 2 ∗ wPts m c 3 ∗ wPts m c 4 ∗ wPts m c 5)
  refine both_ways ?_ ?_
  · iintro ⟨⟨A, D⟩, ⟨B, E⟩, C, G⟩
    isplitl [A]; · iexact A
    isplitl [B]; · iexact B
    isplitl [C]; · iexact C
    isplitl [D]; · iexact D
    isplitl [E]; · iexact E
    iexact G
  · iintro ⟨A, B, C, D, E, G⟩
    isplitl [A D]
    · isplitl [A]; · iexact A
      iexact D
    isplitl [B E]
    · isplitl [B]; · iexact B
      iexact E
    isplitl [C]; · iexact C
    iexact G
theorem weights_intro (c : Dev nD) :
    Pipeline.unscopedRestP Pipeline.Prefetch.none cfg0.spec c (fun b => m ((c : Thread nD τ).loc b)) = weights (F := F) m c := by
  rw [Pipeline.unscopedRestP_none, weights_eq, bigSep_univ_eq_bigSepL [0, 1, 2, 3, 4, 5] (by decide) (by decide)]
  exact unscopedRest0_eq c _

theorem start_intro (c : Dev nD) :
    iprop(Pipeline.unscopedRestP Pipeline.Prefetch.none cfg0.spec c (fun b => m ((c : Thread nD τ).loc b)) ∗ levAts L lv
        ∗ Pipeline.launchCred (fun d => owedL d payAll) c ∗ prngReg c (ρ c) ∗ shared (F := F) m ρ c)
      ⊢ |={Set.univ}=> iprop(start m ρ c ∗ emp) := by
  rw [weights_intro]
  unfold start shared ahead ctx
  iintro ⟨HW, Hlev, Hcr, -, ⟨%K, HI, HD, HP⟩⟩
  ihave Hc := (credit_intro (F := F) c) $$ Hcr
  imodintro
  isplitl
  · isplitl [HI Hlev]
    · iexists K
      isplitl [HI]; · iexact HI
      iexact Hlev
    isplitl [HW]; · iexact HW
    isplitl [HD]; · iexact HD
    isplitl [HP]; · iexact HP
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scratch_eq]
  unfold before
  iintro ⟨Hs, -, Hr⟩
  isplitl [Hs]; · iexact Hs
  iexact Hr

/-- What is read at the end. -/
def Y (c : Dev nD) : sProp 𝕄 := iprop(unscopedSems0 c ∗ bigSep Finset.univ (wPts (F := F) m c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = after m c from rfl, scratch_eq]
  unfold after behind Y
  rw [weights_eq, ← all_sems]
  iintro ⟨⟨HW, HO, HB⟩, Hr⟩
  isplitl [HW HB]
  · isplitl [HB]; · iexact HB
    iexact HW
  isplitl [HO]; · iexact HO
  iexact Hr

theorem pay_lv (p : Pay) : 0 < clLv (payCl p) := by
  cases p <;> simp [payCl, clLv]
  split <;> omega
theorem stage_dec : ∀ (w : Fin 2) (s : Fin (cfg0.win w).nbuf), dec (.dma ((cfg0.win w).sem s)) = none := by decide +kernel
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ payAll fun p _ => by rw [stage_dec w s]; exact pay_lv p
    · exact mayWait c _ [] (by intro p hp; cases hp)

/-! ## The run -/

def finalA (c : Dev nD) (w : Fin cfg0.W) : Buf (Elt F) ((cfg0.win w).arr.view.loc (c : Thread nD τ)) := (dats m ρ 0 c).arrAt w cfg0.N

/-- What the final memory holds: each window's array at its final contents, the weights as they were, every semaphore zero. -/
def Final (r : PUnit × MemSt nD τ sig (Elt F)) : Prop :=
  (∀ c : Dev nD, (∀ w : Fin cfg0.W, r.2.mem ((cfg0.win w).arr.view.loc (c : Thread nD τ)) = finalA m ρ c w)
    ∧ ∀ i : Fin 6, r.2.mem ((c : Thread nD τ).loc (wRef i)) = m ((c : Thread nD τ).loc (wRef i)))
  ∧ r.2.sem = fun _ => 0

theorem read_end (c : Dev nD) (s' : Phys nD τ sig (Elt F)) : iprop(Y m c ∗ emp ∗ SI s')
    ⊢ |={Set.univ}=> (iprop(⌜(∀ sm : SemLoc sig, sm.isScoped .tc = false → s'.mem.sem ((c : Thread nD τ), sm) = 0)
        ∧ ∀ i : Fin 6, s'.mem.mem ((c : Thread nD τ).loc (wRef i)) = m ((c : Thread nD τ).loc (wRef i))⌝ ∗ SI s') : sProp 𝕄) := by
  unfold Y
  iintro ⟨⟨HU, HW⟩, -, HS⟩
  ihave H := (pointsTo_read_all (Ix := Unit) (Name := ℕ) (U := UU) (Lvl := ℕ) Finset.univ (fun i => (c : Thread nD τ).loc (wRef i)) (fun i => m ((c : Thread nD τ).loc (wRef i))) s') $$ [HW HS]
  · isplitl [HW]
    · iexact HW
    iexact HS
  icases H with ⟨%h, HS⟩
  imod (Pipeline.unscopedSems0_read (X := unscopedSems0 c) (c := c) fupd_intro s') $$ [HU HS] with ⟨%hs, HS⟩
  · isplitl [HU] <;> iassumption
  imodintro
  isplitr
  · ipureintro; exact ⟨hs, fun i => h i (Finset.mem_univ i)⟩
  iexact HS

set_option maxRecDepth 40000 in
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL d payAll) (howed₀ := fun _ => rfl) (howedN := fun _ => rfl)
    (L := L) (lv := lv) (hL := L_of_ne) (hwaits := waits m ρ)
    (G := dealt m ρ) (G' := shared m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := Y m) (Z := fun _ => iprop(emp))
    (hX := start_intro m ρ) (hin := phi0_intro m ρ) (hout := phi1_exit m ρ)
    (QY := fun c s => (∀ sm : SemLoc sig, sm.isScoped .tc = false → s.sem ((c : Thread nD τ), sm) = 0)
        ∧ ∀ i : Fin 6, s.mem ((c : Thread nD τ).loc (wRef i)) = m ((c : Thread nD τ).loc (wRef i)))
    (hY := read_end m)
    (hQ := fun _ h hs => ⟨fun c => ⟨(h c).1, (h c).2.2.2⟩, sem_eq_zero hs fun c => (h c).2.2.1⟩)

/-- The activations' array after the run holds what it held. -/
theorem final_x (c : Dev nD) : finalA m ρ c (0 : Fin 2) = m ((c : Thread nD τ).loc main_arg0) :=
  (dats (F := F) m ρ 0 c).arrAt_in (0 : Fin 2) rfl _

end Cert.MlpProof
-- ==== Proof.Frames.lean ====
/-
  The three frame claims: the program on machine numbers, the program on extended reals, and the reference.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.MlpProof

open Cert.KernelIdeal Cert.KernelIdeal.Gen
open Idealize.ShloMosaic
open Idealize.ShloMosaic.TcCoe
open Idealize.SL.Sem

variable {F : FTy → Type} [FloatOps F]

/-- The seven arguments of device `c` end as they began. -/
theorem args_kept (m : (ℓ : Loc nD τ sig) → Buf (Elt F) ℓ) (ρ : Dev nD → PrngReg) (r : PUnit × MemSt nD τ sig (Elt F))
    (h : Final m ρ r) (c : Dev nD) :
    r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) :=
  ⟨((h.1 c).1 0).trans (final_x m ρ c), (h.1 c).2 0, (h.1 c).2 1, (h.1 c).2 2, (h.1 c).2 3, (h.1 c).2 4, (h.1 c).2 5⟩

/-- The program, on any number type, runs to its end, leaves its arguments alone and every semaphore at zero. -/
theorem frame_any (m : (ℓ : Loc nD τ sig) → Buf (Elt F) ℓ) (ρ : Dev nD → PrngReg) :
    θ_run (Cert.KernelIdeal.defs (F := F)) (onTc (τ := τ) (main (F := F))) ⟨m, fun _ => 0, ρ⟩ (fun r => (∀ c : Dev nD,
      r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6)) ∧ r.2.sem = fun _ => 0) :=
  (θ_run Cert.KernelIdeal.defs _ _).mono (fun r h => ⟨args_kept m ρ r h, h.2⟩) (run_main m ρ)

/-- The frame of the program on extended reals. -/
theorem frame_ideal : Cert.quiescent_KernelIdeal := fun m ρ _ => frame_any (F := Ideal) m ρ

/-- The two programs have the same bodies, -/
theorem same_body : @Cert.Kernel.cc0_body Bits _ _ = @Cert.KernelIdeal.cc0_body Bits _ _ := rfl

/-- … so the same labels, -/
theorem same_labels : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => dsimp only; rw [same_body]

/-- … before and after the pipelines are put in. -/
theorem same_defs : Cert.Kernel.defs (F := Bits) = Cert.KernelIdeal.defs (F := Bits) := by
  unfold Cert.Kernel.defs Cert.KernelIdeal.defs
  rw [same_labels]
  rfl

/-- The frame of the program on machine numbers. -/
theorem frame_kernel : Cert.quiescent_Kernel := fun m ρ _ => by
  rw [same_defs]
  exact frame_any (F := Bits) m ρ

/-- The frame of the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

end Cert.MlpProof
-- ==== Proof.Layers.lean ====
/-
  The arithmetic of one layer over extended reals: the value of the kernel's block and of the reference's layer as sums,
  the reference's sum cut into the eight devices' parts, and the kernel's sums over devices in the order it takes them.
-/
module

public import proofs.«01_k».proof.Proof.Cells
public import proofs.«01_k».proof.Proof.Gen.ReferenceIdeal.Run
public import Idealize.ShloMosaic.Lib.MatmulPlain
public import Idealize.ShloMosaic.Lib.StackMember
public import Idealize.ShloMosaic.Lib.ValueIdxCore
public import Idealize.ShloMosaic.Lib.Layout

@[expose] public section

noncomputable section

namespace Cert.MlpProof

open Cert.KernelIdeal Cert.KernelIdeal.Gen
open Idealize.ShloMosaic
open Idealize.ShloMosaic.ValueIdx (ix2 eq_ix2)
open Idealize.ShloMosaic.StackMember (dotGeneral_plain_apply)

/-! ## Shapes of the whole arrays -/

abbrev WAct : Type := FVec Ideal ⟨2, ![64, 512]⟩ .f32
abbrev WIn : Type := FVec Ideal ⟨2, ![512, 8192]⟩ .f32
abbrev WOut : Type := FVec Ideal ⟨2, ![8192, 512]⟩ .f32

/-- Hidden unit `h` of device `c`, among all. -/
def unit (c : Fin 8) (h : Fin 1024) : Fin 8192 := ⟨c.val * 1024 + h.val, by omega⟩

/-- Row `r` of row block `b`, among all. -/
def row (b : Fin 4) (r : Fin 16) : Fin 64 := ⟨16 * b.val + r.val, by omega⟩

/-! ## A layer -/

/-- What one hidden unit adds to an element of the layer's output. -/
def term (X : WAct) (W : WIn) (V : WOut) (i : Fin 64) (j : Fin 512) (h : Fin 8192) : EReal :=
  max (∑ k : Fin 512, X (ix2 i k) * W (ix2 k h)) 0 * V (ix2 h j)

/-- What one device's hidden units add. -/
def piece (X : WAct) (W : WIn) (V : WOut) (c : Fin 8) (i : Fin 64) (j : Fin 512) : EReal :=
  ∑ h : Fin 1024, term X W V i j (unit c h)

/-- The reference's layer. -/
def hostLayer (X : WAct) (W : WIn) (V : WOut) : WAct :=
  Host.dotGeneral Cert.ReferenceIdeal.dot_S64x8192_S8192x512_S64x512_1_0_0_1_n_n none
    (maximumf (Host.dotGeneral Cert.ReferenceIdeal.dot_S64x512_S512x8192_S64x8192_1_0_0_1_n_n none X W)
      (broadcastInDim Cert.ReferenceIdeal.S64x8192 ![] Cert.ReferenceIdeal.Gen.bcast_S_S64x8192
        (constant Cert.ReferenceIdeal.S_ .f32 0x00000000#32))) V

/-- The kernel's block, at an element. -/
theorem dense_apply (x : FVec Ideal S16x512 .f32) (w1 : FVec Ideal S512x1024 .f32) (w2 : FVec Ideal S1024x512 .f32)
    (r : Fin 16) (j : Fin 512) :
    dense (F := Ideal) x w1 w2 (ix2 r j)
      = ∑ h : Fin 1024, max (∑ k : Fin 512, x (ix2 r k) * w1 (ix2 k h)) 0 * w2 (ix2 h j) := by
  show FloatOps.matmul (DotDims.plain 16 1024 512) none _ w2 (constant S16x512 .f32 0x00000000#32) (ix2 r j) = _
  rw [Ideal.matmul_plain_apply]
  refine (congrArg₂ (· + ·) Ideal.ofBits_zero_f32 (Finset.sum_congr rfl fun h _ => congrArg (· * w2 (ix2 h j)) ?_)).trans (zero_add _)
  refine congrArg₂ max ?_ Ideal.ofBits_zero_f32
  show FloatOps.matmul (DotDims.plain 16 512 1024) none x w1 (constant S16x1024 .f32 0x00000000#32) (ix2 r h) = _
  rw [Ideal.matmul_plain_apply]
  exact (congrArg (· + _) Ideal.ofBits_zero_f32).trans (zero_add _)

/-- The reference's layer, at an element. -/
theorem hostLayer_apply (X : WAct) (W : WIn) (V : WOut) (i : Fin 64) (j : Fin 512) :
    hostLayer X W V (ix2 i j) = ∑ h : Fin 8192, term X W V i j h := by
  refine (dotGeneral_plain_apply none _ V i j).trans (Finset.sum_congr rfl fun h _ => congrArg (· * V (ix2 h j)) ?_)
  exact congrArg₂ max (dotGeneral_plain_apply none X W i h) Ideal.ofBits_zero_f32

/-- A sum over all hidden units is the sum over devices of the sums over their units. -/
theorem sum_units (f : Fin 8192 → EReal) : ∑ h : Fin 8192, f h = ∑ c : Fin 8, ∑ h : Fin 1024, f (unit c h) := by
  rw [← Fintype.sum_prod_type' (f := fun c h => f (unit c h)),
    ← Equiv.sum_comp (finProdFinEquiv (m := 8) (n := 1024)) f]
  refine Finset.sum_congr rfl fun p _ => congrArg f (Fin.ext ?_)
  show p.2.val + 1024 * p.1.val = p.1.val * 1024 + p.2.val
  omega

/-- The layer is the sum of the devices' pieces. -/
theorem sum_piece (X : WAct) (W : WIn) (V : WOut) (i : Fin 64) (j : Fin 512) :
    ∑ c : Fin 8, piece X W V c i j = hostLayer X W V (ix2 i j) :=
  ((hostLayer_apply X W V i j).trans (sum_units _)).symm

/-- A device's block of the layer is its piece: its rows are rows of `X`, its weights its blocks of `W` and `V`. -/
theorem dense_piece (X : WAct) (W : WIn) (V : WOut) (c : Fin 8) (b : Fin 4) (x : FVec Ideal S16x512 .f32)
    (w1 : FVec Ideal S512x1024 .f32) (w2 : FVec Ideal S1024x512 .f32)
    (hx : ∀ r k, x (ix2 r k) = X (ix2 (row b r) k))
    (h1 : w1 = Layout.block ⟨2, ![512, 1024]⟩ ⟨2, ![512, 8192]⟩ 1 8 c W)
    (h2 : w2 = Layout.block ⟨2, ![1024, 512]⟩ ⟨2, ![8192, 512]⟩ 0 8 c V) (r : Fin 16) (j : Fin 512) :
    dense (F := Ideal) x w1 w2 (ix2 r j) = piece X W V c (row b r) j := by
  rw [dense_apply]
  refine Finset.sum_congr rfl fun h _ => congrArg₂ (fun a v => max a 0 * v) (Finset.sum_congr rfl fun k _ => ?_) ?_
  · rw [hx, h1, Layout.block_apply]
    refine congrArg (fun i => X (ix2 (row b r) k) * W i) ?_
    funext a; match a with
      | ⟨0, _⟩ => rfl
      | ⟨1, _⟩ => rfl
  · rw [h2, Layout.block_apply]
    refine congrArg V ?_
    funext a; match a with
      | ⟨0, _⟩ => rfl
      | ⟨1, _⟩ => rfl

/-! ## The sums over devices -/

/-- A list of all the devices, in some order, sums as the devices do. -/
theorem sum_devices (f : Fin 8 → EReal) (l : List (Fin 8)) (h : l.Perm (List.finRange 8)) : (l.map f).sum = ∑ d : Fin 8, f d := by
  rw [Fin.sum_univ_def]
  exact (h.map f).sum_eq

/-- The devices whose blocks device `c` adds in an exchange, in the order it adds them. -/
def order (lb : Fin 8) (c : Dev nD) : List (Fin 8) :=
  let g (d : Dev nD) : List (Fin 8) := [d, xDev lb 0 d, xDev lb 1 d, xDev lb 2 d]
  g c ++ g (xDev lb 3 c)

theorem order_perm : ∀ (lb : Fin 8) (c : Dev nD), (order lb c).Perm (List.finRange 8) := by decide +kernel

/-- After an exchange every device holds the sum of all devices' blocks. -/
theorem allSum_apply (lb : Fin 8) (a : Dev nD → FVec Ideal S16x512 .f32) (c : Dev nD) (i : S16x512.Idx) :
    allSum (F := Ideal) lb a c i = ∑ d : Fin 8, a d i := by
  rw [← sum_devices (fun d => a d i) _ (order_perm lb c)]
  show (a c i + ((a (xDev lb 0 c) i + a (xDev lb 1 c) i) + a (xDev lb 2 c) i))
      + (a (xDev lb 3 c) i + ((a (xDev lb 0 (xDev lb 3 c)) i + a (xDev lb 1 (xDev lb 3 c)) i) + a (xDev lb 2 (xDev lb 3 c)) i)) = _
  simp only [order, List.map_append, List.map_cons, List.map_nil, List.sum_append, List.sum_cons, List.sum_nil, add_zero, add_assoc]

/-- The devices whose rows device `c` adds in the scatter, in order. -/
def rorder (c : Dev nD) : List (Fin 8) := [c, rDev 3 c, rDev 2 c, rDev 0 c, rDev 6 c, rDev 4 c, rDev 1 c, rDev 5 c]

theorem rorder_perm : ∀ c : Dev nD, (rorder c).Perm (List.finRange 8) := by decide +kernel

end Cert.MlpProof
-- ==== Proof.Value.lean ====
/-
  The value claim: over extended reals the eight devices' results are the blocks of rows of the reference's result.
-/
module

public import proofs.«01_k».proof.Proof.Frames
public import proofs.«01_k».proof.Proof.Layers
public import Idealize.ShloMosaic.Lib.Pipeline.ValueKit.Geometry

@[expose] public section

noncomputable section

namespace Cert.MlpProof

open Cert.KernelIdeal Cert.KernelIdeal.Gen
open Idealize.ShloMosaic
open Idealize.ShloMosaic.TcCoe
open Idealize.SL.Sem
open Idealize.ShloMosaic.ValueIdx (ix2 eq_ix2)

/-! ## The buffers read -/

section Reads

variable {F : FTy → Type} [FloatOps F] (m : (ℓ : Loc nD τ sig) → Buf (Elt F) ℓ) (ρ : Dev nD → PrngReg)

/-- The one grid point writes the whole of the result's array. -/
theorem whole_o : win0_1.WholeAt (⟨0, by decide⟩ : Fin grid0.N) := by decide +kernel

/-- The result's array ends holding the output block. -/
theorem final_o (c : Dev nD) : finalA m ρ c (1 : Fin 2) = outVal m ρ c := by
  refine (dats (F := F) m ρ 0 c).arrAt_eq_of_after_last (1 : Fin 2) (0 : Fin 1) whole_o _ fun j => ?_
  rfl

/-- The staged activations are the activations' array. -/
theorem xstg_eq (c : Dev nD) : xstg m ρ c = m ((c : Thread nD τ).loc main_arg0) := by
  funext i
  show m ((c : Thread nD τ).loc main_arg0) _ = _
  refine congrArg (m ((c : Thread nD τ).loc main_arg0)) ?_
  funext a; apply Fin.ext; match a with
    | ⟨0, _⟩ => exact (Nat.zero_add _).trans (Nat.one_mul _)
    | ⟨1, _⟩ => exact (Nat.zero_add _).trans (Nat.one_mul _)

/-- Row `r` of block `b` of the activations. -/
theorem xblk_apply (b : Fin 4) (c : Dev nD) (r : Fin 16) (k : Fin 512) :
    same16 (xblk m ρ b c) (ix2 r k) = m ((c : Thread nD τ).loc main_arg0) (ix2 (row b r) k) := by
  unfold same16 xblk
  rw [shapeCast_self, xstg_eq]
  show m ((c : Thread nD τ).loc main_arg0) _ = _
  refine congrArg (m ((c : Thread nD τ).loc main_arg0)) ?_
  funext a; apply Fin.ext; match a with
    | ⟨0, _⟩ => exact congrArg (16 * b.val + ·) (Nat.one_mul _)
    | ⟨1, _⟩ => exact (Nat.zero_add _).trans (Nat.one_mul _)

/-- The weights are their arrays. -/
theorem wIn0 (c : Dev nD) : wIn m 0 c = m ((c : Thread nD τ).loc main_arg1) := rfl
theorem wIn1 (c : Dev nD) : wIn m 1 c = m ((c : Thread nD τ).loc main_arg2) := rfl
theorem wIn2 (c : Dev nD) : wIn m 2 c = m ((c : Thread nD τ).loc main_arg3) := rfl
theorem wOut0 (c : Dev nD) : wOut m 0 c = m ((c : Thread nD τ).loc main_arg4) := rfl
theorem wOut1 (c : Dev nD) : wOut m 1 c = m ((c : Thread nD τ).loc main_arg5) := rfl
theorem wOut2 (c : Dev nD) : wOut m 2 c = m ((c : Thread nD τ).loc main_arg6) := rfl

/-- Row `r` of device `c`'s rows, among all. -/
def mine (c : Fin 8) (r : Fin 8) : Fin 64 := ⟨8 * c.val + r.val, by omega⟩

theorem off1 : ∀ (c : Dev nD) (r : Fin 7), k0_off1 (rDev r c) (BitVec.ofNat 32 (1 + r.val)) 0 = 8 * c.val
    ∧ k0_off1 (rDev r c) (BitVec.ofNat 32 (1 + r.val)) 1 = 0 := by decide +kernel
theorem off2 : ∀ c : Dev nD, k0_off2 c 0 = 8 * c.val ∧ k0_off2 c 1 = 0 := by decide +kernel

/-- What device `c` receives in the scatter are its rows of the sender's buffer. -/
theorem rsVal_apply (c : Dev nD) (r : Fin 7) (i : Fin 8) (j : Fin 512) :
    rsVal m ρ (rDev r c) r (ix2 i j) = rsBuf m ρ (rDev r c) (ix2 (mine c i) j) := by
  show rsBuf m ρ (rDev r c) _ = _
  refine congrArg (rsBuf m ρ (rDev r c)) ?_
  funext a; apply Fin.ext; match a with
    | ⟨0, _⟩ => exact congrArg₂ (· + ·) (off1 c r).1 (Nat.one_mul _)
    | ⟨1, _⟩ => exact (congrArg₂ (· + ·) (off1 c r).2 (Nat.one_mul _)).trans (Nat.zero_add _)

/-- What it keeps are its rows of its own. -/
theorem ownVal_apply (c : Dev nD) (i : Fin 8) (j : Fin 512) : ownVal m ρ c (ix2 i j) = rsBuf m ρ c (ix2 (mine c i) j) := by
  show rsBuf m ρ c _ = _
  refine congrArg (rsBuf m ρ c) ?_
  funext a; apply Fin.ext; match a with
    | ⟨0, _⟩ => exact congrArg₂ (· + ·) (off2 c).1 (Nat.one_mul _)
    | ⟨1, _⟩ => exact (congrArg₂ (· + ·) (off2 c).2 (Nat.one_mul _)).trans (Nat.zero_add _)

end Reads

/-! ## Layer by layer -/

section Layers

variable (m : (ℓ : Loc nD τ sig) → Buf (Elt Ideal) ℓ) (ρ : Dev nD → PrngReg)

/-- Every row is a row of some block. -/
theorem row_of (i : Fin 64) : row ⟨i.val / 16, by omega⟩ ⟨i.val % 16, Nat.mod_lt _ (by decide)⟩ = i :=
  Fin.ext (Nat.div_add_mod i.val 16)

/-- An element of the buffer of rows to scatter is the element of the third layer's block. -/
theorem rsBuf_apply (c : Dev nD) (i : Fin 64) (j : Fin 512) :
    rsBuf m ρ c (ix2 i j) = partial2 m ρ ⟨i.val / 16, by omega⟩ c (ix2 ⟨i.val % 16, Nat.mod_lt _ (by decide)⟩ j) := by
  show same16b _ _ = _
  unfold same16b
  rw [shapeCast_self]
  refine congrArg (partial2 m ρ ⟨i.val / 16, by omega⟩ c) ?_
  funext a; match a with
    | ⟨0, _⟩ => rfl
    | ⟨1, _⟩ => rfl

/-- That element, as a number. -/
def rsAt (c : Fin 8) (i : Fin 64) (j : Fin 512) : EReal := rsBuf m ρ (c : Dev nD) (ix2 i j)

/-- The output block is the sum of all devices' rows. -/
theorem outVal_apply (c : Dev nD) (i : Fin 8) (j : Fin 512) :
    outVal m ρ c (ix2 i j) = ∑ d : Fin 8, rsAt m ρ d (mine c i) j := by
  rw [← sum_devices (fun d => rsAt m ρ d (mine c i) j) _ (rorder_perm c)]
  show (((((((ownVal m ρ c (ix2 i j) + rsVal m ρ (rDev 3 c) 3 (ix2 i j)) + rsVal m ρ (rDev 2 c) 2 (ix2 i j))
    + rsVal m ρ (rDev 0 c) 0 (ix2 i j)) + rsVal m ρ (rDev 6 c) 6 (ix2 i j)) + rsVal m ρ (rDev 4 c) 4 (ix2 i j))
    + rsVal m ρ (rDev 1 c) 1 (ix2 i j)) + rsVal m ρ (rDev 5 c) 5 (ix2 i j) : EReal) = _
  simp only [rsVal_apply, ownVal_apply, rorder, rsAt, List.map_cons, List.map_nil, List.sum_cons, List.sum_nil, add_zero, add_assoc]

variable (X : WAct) (W0 W1 W2 : WIn) (V0 V1 V2 : WOut)

/-- The devices' arguments are the whole activations and their blocks of the weights. -/
structure Shares : Prop where
  x : ∀ c : Dev nD, m ((c : Thread nD τ).loc main_arg0) = X
  w0 : ∀ c : Dev nD, m ((c : Thread nD τ).loc main_arg1) = Layout.block ⟨2, ![512, 1024]⟩ ⟨2, ![512, 8192]⟩ 1 8 c W0
  w1 : ∀ c : Dev nD, m ((c : Thread nD τ).loc main_arg2) = Layout.block ⟨2, ![512, 1024]⟩ ⟨2, ![512, 8192]⟩ 1 8 c W1
  w2 : ∀ c : Dev nD, m ((c : Thread nD τ).loc main_arg3) = Layout.block ⟨2, ![512, 1024]⟩ ⟨2, ![512, 8192]⟩ 1 8 c W2
  v0 : ∀ c : Dev nD, m ((c : Thread nD τ).loc main_arg4) = Layout.block ⟨2, ![1024, 512]⟩ ⟨2, ![8192, 512]⟩ 0 8 c V0
  v1 : ∀ c : Dev nD, m ((c : Thread nD τ).loc main_arg5) = Layout.block ⟨2, ![1024, 512]⟩ ⟨2, ![8192, 512]⟩ 0 8 c V1
  v2 : ∀ c : Dev nD, m ((c : Thread nD τ).loc main_arg6) = Layout.block ⟨2, ![1024, 512]⟩ ⟨2, ![8192, 512]⟩ 0 8 c V2

variable {m X W0 W1 W2 V0 V1 V2}

/-- An exchange of the devices' pieces of a layer leaves the layer's rows on every device. -/
theorem exchange (lb : Fin 8) (b : Fin 4) (a : Dev nD → FVec Ideal S16x512 .f32) (Y : WAct) (W : WIn) (V : WOut)
    (h : ∀ (d : Dev nD) r j, a d (ix2 r j) = piece Y W V d (row b r) j) (c : Dev nD) (r : Fin 16) (j : Fin 512) :
    allSum (F := Ideal) lb a c (ix2 r j) = hostLayer Y W V (ix2 (row b r) j) := by
  rw [allSum_apply, ← sum_piece]
  exact Finset.sum_congr rfl fun d _ => h d r j

variable (h : Shares m X W0 W1 W2 V0 V1 V2)
include h

theorem partial0_apply (b : Fin 4) (c : Dev nD) (r : Fin 16) (j : Fin 512) :
    partial0 m ρ b c (ix2 r j) = piece X W0 V0 c (row b r) j :=
  dense_piece X W0 V0 c b _ _ _ (fun r k => (xblk_apply m ρ b c r k).trans (congrFun (h.x c) _))
    ((wIn0 m c).trans (h.w0 c)) ((wOut0 m c).trans (h.v0 c)) r j

theorem partial1_apply (b : Fin 4) (c : Dev nD) (r : Fin 16) (j : Fin 512) :
    partial1 m ρ b c (ix2 r j) = piece (hostLayer X W0 V0) W1 V1 c (row b r) j :=
  dense_piece _ W1 V1 c b _ _ _ (exchange (lo b) b _ X W0 V0 (partial0_apply ρ h b) c)
    ((wIn1 m c).trans (h.w1 c)) ((wOut1 m c).trans (h.v1 c)) r j

theorem partial2_apply (b : Fin 4) (c : Dev nD) (r : Fin 16) (j : Fin 512) :
    partial2 m ρ b c (ix2 r j) = piece (hostLayer (hostLayer X W0 V0) W1 V1) W2 V2 c (row b r) j :=
  dense_piece _ W2 V2 c b _ _ _ (exchange (hi b) b _ _ W1 V1 (partial1_apply ρ h b) c)
    ((wIn2 m c).trans (h.w2 c)) ((wOut2 m c).trans (h.v2 c)) r j

/-- Device `c`'s output block is its block of rows of the third layer. -/
theorem outVal_block (c : Dev nD) :
    outVal m ρ c = Layout.block ⟨2, ![8, 512]⟩ ⟨2, ![64, 512]⟩ 0 8 c
      (hostLayer (hostLayer (hostLayer X W0 V0) W1 V1) W2 V2) := by
  funext i
  obtain ⟨r, j, rfl⟩ : ∃ (r : Fin 8) (j : Fin 512), i = ix2 r j := ⟨i 0, i 1, eq_ix2 i⟩
  rw [outVal_apply, Layout.block_apply]
  refine Eq.trans ?_ ((sum_piece (hostLayer (hostLayer X W0 V0) W1 V1) W2 V2 (mine c r) j).trans ?_)
  · refine Finset.sum_congr rfl fun d _ => ?_
    exact (rsBuf_apply m ρ d (mine c r) j).trans ((partial2_apply ρ h _ d _ j).trans (by rw [row_of]))
  · refine congrArg (hostLayer (hostLayer (hostLayer X W0 V0) W1 V1) W2 V2) ?_
    funext a; apply Fin.ext; match a with
      | ⟨0, _⟩ => exact congrArg (· + r.val) (Nat.mul_comm 8 c.val)
      | ⟨1, _⟩ => rfl

end Layers

/-! ## The claim -/

/-- Both programs run, and the kernel's results are the blocks of the reference's. -/
theorem algebraic : Cert.algebraic_KernelIdeal_ReferenceIdeal := fun m ρ m' ρ' _ hm => by
  refine ⟨_, ?_, (θ_run Cert.ReferenceIdeal.defs _ _).mono (fun r h => h 0) (Cert.ReferenceIdeal.Value.run m' ρ')⟩
  refine (θ_run Cert.KernelIdeal.defs _ _).mono (fun r h c => ⟨((h.1 c).1 1).trans ?_, args_kept m ρ r h c⟩) (run_main (F := Ideal) m ρ)
  refine (final_o m ρ c).trans (outVal_block ρ ⟨fun c => (hm c).1, fun c => (hm c).2.1, fun c => (hm c).2.2.1,
    fun c => (hm c).2.2.2.1, fun c => (hm c).2.2.2.2.1, fun c => (hm c).2.2.2.2.2.1, fun c => (hm c).2.2.2.2.2.2⟩ c)

end Cert.MlpProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpProof.frame_kernel, Cert.MlpProof.frame_ideal, Cert.MlpProof.frame_reference, trivial, Cert.MlpProof.algebraic⟩

end Cert.Proof

end
